-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![512, 512]⟩ ⟨2, ![4096, 512]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v13)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨2, ![512, 512]⟩ ⟨2, ![4096, 512]⟩ 0 8 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v13) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x512 : Shape := ⟨2, ![512, 512]⟩
abbrev S2x1x512 : Shape := ⟨3, ![2, 1, 512]⟩
abbrev S2 : Shape := ⟨1, ![2]⟩
abbrev S_ : Shape := ⟨0, ![]⟩
abbrev S1 : Shape := ⟨1, ![1]⟩
abbrev S1x1x512 : Shape := ⟨3, ![1, 1, 512]⟩
abbrev S1x512 : Shape := ⟨2, ![1, 512]⟩
abbrev S510x512 : Shape := ⟨2, ![510, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S2x1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v31 : BitVec 32 := Scalar.muli v25 c1_i32_23
  let v32 : BitVec 32 := Scalar.addi c0_i32_24 v31
  v32.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_31 : BitVec 32 := 1#32
  let v40 : BitVec 32 := Scalar.muli v14 c1_i32_31
  let v41 : BitVec 32 := Scalar.addi c0_i32_32 v40
  v41.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x512 : Shape := ⟨2, ![4096, 512]⟩
abbrev S4094x512 : Shape := ⟨2, ![4094, 512]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4094x512, .f32⟩
  | .hbm, ⟨2, _⟩ => ⟨S_, .f32⟩
  | .hbm, ⟨3, _⟩ => ⟨S4094x512, .f32⟩
  | .hbm, ⟨4, _⟩ => ⟨S4094x512, .f32⟩
  | .hbm, ⟨5, _⟩ => ⟨S4094x512, .f32⟩
  | .hbm, ⟨6, _⟩ => ⟨S_, .f32⟩
  | .hbm, ⟨7, _⟩ => ⟨S4094x512, .f32⟩
  | .hbm, ⟨8, _⟩ => ⟨S4094x512, .f32⟩
  | .hbm, ⟨9, _⟩ => ⟨S4094x512, .f32⟩
  | .hbm, ⟨10, _⟩ => ⟨S4094x512, .f32⟩
  | .hbm, ⟨11, _⟩ => ⟨S_, .f32⟩
  | .hbm, ⟨12, _⟩ => ⟨S4094x512, .f32⟩
  | .hbm, ⟨13, _⟩ => ⟨S4094x512, .f32⟩
  | .hbm, ⟨14, _⟩ => ⟨S4094x512, .f32⟩
  | .hbm, ⟨15, _⟩ => ⟨S1x512, .f32⟩
  | .hbm, ⟨16, _⟩ => ⟨S1x512, .f32⟩
  | .hbm, ⟨17, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Places.lean ====
/-
# Where things are

Device `c` of the eight holds 512 rows. It sends two single rows: its LAST row to the next device
(direction `true`) and its FIRST row to the previous one (direction `false`). Everything that comes
in two directions is a function of that Boolean here, so that later facts are stated once:

* `toward d c` — the device the row of direction `d` is sent to;
* `rowM d` — the row that is sent (row 511 or row 0 of the staged block);
* `slotM d` — the halo slot it lands in (slot 0 or slot 1 of the receiver's scratch);
* `Cell` — the five semaphore cells of a device: the barrier, and per direction a send and a receive cell.
-/
module

public import proofs.«01_k».proof.Proof.Gen.KernelIdeal
public import Idealize.ShloMosaic.Lib.Pipeline.Launch
public import Idealize.ShloMosaic.Lib.ViewIndex
public import Idealize.ShloMosaic.Lib.Tactic

@[expose] public section

noncomputable section

namespace Cert.HaloProof

open Cert.KernelIdeal Cert.KernelIdeal.Gen
open Idealize.ShloMosaic Idealize.ShloMosaic.TcCoe

/-! ## The ring of devices -/

set_option backward.proofsInPublic true in
/-- The device that direction `d` leads to: the next one for `true`, the previous one for `false`. -/
def toward (d : Bool) (c : Dev nD) : Dev nD := ⟨(c.val + if d then 1 else 7) % 8, Nat.mod_lt _ (by decide)⟩

theorem toward_not (d : Bool) (c : Dev nD) : toward (!d) (toward d c) = c := by revert d c; decide
theorem toward_of_not (d : Bool) (c : Dev nD) : toward d (toward (!d) c) = c := by revert d c; decide

/-- Going one step in direction `d`, as a bijection of the devices. -/
def step (d : Bool) : Dev nD ≃ Dev nD := ⟨toward d, toward (!d), toward_not d, toward_of_not d⟩

theorem eq_toward_iff (d : Bool) (a b : Dev nD) : a = toward d b ↔ b = toward (!d) a :=
  ⟨fun h => by rw [h, toward_not], fun h => by rw [h, toward_of_not]⟩

/-- The device numbers the kernel computes: the signals go to the previous device and then to the next one, -/
theorem dev1_eq (c : Dev nD) : (⟨k0_dev1 c, k0_dev1_lt c⟩ : Dev nD) = toward false c := by revert c; decide +kernel
theorem dev2_eq (c : Dev nD) : (⟨k0_dev2 c, k0_dev2_lt c⟩ : Dev nD) = toward true c := by revert c; decide +kernel
/-- the copies to the next device and then to the previous one. -/
theorem dev3_eq (c : Dev nD) : (⟨k0_dev3 c, k0_dev3_lt c⟩ : Dev nD) = toward true c := by revert c; decide +kernel
theorem dev4_eq (c : Dev nD) : (⟨k0_dev4 c, k0_dev4_lt c⟩ : Dev nD) = toward false c := by revert c; decide +kernel

/-! ## The windows -/

/-- The staged block of `x`, the staged block of the result, the halo scratch. -/
abbrev xM : Memref sig .tc .vmem S512x512 .f32 := Memref.whole cc0_stg0_0
abbrev oM : Memref sig .tc .vmem S512x512 .f32 := Memref.whole cc0_stg1_0
abbrev hM : Memref sig .tc .vmem S2x1x512 .f32 := Memref.whole cc0_scratch0

/-- The row of the block that direction `d` sends, and the slot of the halo it lands in. -/
abbrev rowIx (d : Bool) : ℕ := match d with | true => 511 | false => 0
abbrev slotIx (d : Bool) : ℕ := match d with | true => 0 | false => 1

theorem row_inb (d : Bool) : ∀ a, (![rowIx d, 0] : Fin 2 → Nat) a + S1x512.size a ≤ S512x512.size a := by revert d; decide
theorem slot_inb (d : Bool) : ∀ a, (![slotIx d, 0, 0] : Fin 3 → Nat) a + S1x1x512.size a ≤ S2x1x512.size a := by revert d; decide
theorem sem_inb (d : Bool) : ∀ a, (![slotIx d] : Fin 1 → Nat) a + S1.size a ≤ S2.size a := by revert d; decide

abbrev rowRect (d : Bool) : Rect S512x512 := Rect.unit (s := S512x512) ![rowIx d, 0] S1x512.size (row_inb d)
abbrev slotRect (d : Bool) : Rect S2x1x512 := Rect.unit (s := S2x1x512) ![slotIx d, 0, 0] S1x1x512.size (slot_inb d)

abbrev rowM (d : Bool) : Memref sig .tc .vmem S1x512 .f32 := xM.slice (rowRect d) (fun _ => rfl)
abbrev slotM (d : Bool) : Memref sig .tc .vmem S1x512 .f32 := (hM.slice (slotRect d) (fun _ => rfl)).squeeze S1x512 squeezes_S1x1x512_S1x512

/-- The bytes of a row copy, as its semaphores count them: the same for the row as for the slot. -/
abbrev N : ℕ := (slotM true).view.dmaCredit
theorem N_pos : 0 < N := View.dmaCredit_pos _ (by decide)
theorem slot_credit (d : Bool) : (slotM d).view.dmaCredit = N := rfl
theorem row_credit (d : Bool) : (rowM d).view.dmaCredit = N := rfl

/-! ## Which elements the windows cover -/

theorem mem_rowM_set (d : Bool) (i : S512x512.Idx) : i ∈ (rowM d).view.set ↔ (i 0).val = rowIx d := by
  rw [show (rowM d).view.set = (rowRect d).set from View.set_slice_whole _ _, Rect.mem_set_unit]
  constructor
  · intro h; have h0 := h 0; simp at h0; omega
  · intro h a
    have h1 := (i 1).isLt
    match a with
    | ⟨0, _⟩ => simp; omega
    | ⟨1, _⟩ => simp; exact h1

theorem mem_slotM_set (d : Bool) (i : S2x1x512.Idx) : i ∈ (slotM d).view.set ↔ (i 0).val = slotIx d := by
  rw [show (slotM d).view.set = (slotRect d).set from (View.set_reshape _ _).trans (View.set_slice_whole _ _), Rect.mem_set_unit]
  constructor
  · intro h; have h0 := h 0; simp at h0; omega
  · intro h a
    have h1 := (i 1).isLt
    have h2 := (i 2).isLt
    match a with
    | ⟨0, _⟩ => simp; omega
    | ⟨1, _⟩ => simp; exact Nat.lt_one_iff.mp h1
    | ⟨2, _⟩ => simp; exact h2

/-- The two rows sent are different rows, -/
theorem rows_disjoint : Disjoint (rowM true).view.set (rowM false).view.set :=
  Finset.disjoint_left.mpr fun i h h' => by
    have h := (mem_rowM_set true i).mp h
    have h' := (mem_rowM_set false i).mp h'
    rw [h] at h'; exact absurd h' (by decide)

/-- the two slots are different, and make up the whole halo. -/
theorem slots_disjoint : Disjoint (slotM true).view.set (slotM false).view.set :=
  Finset.disjoint_left.mpr fun i h h' => by
    have h := (mem_slotM_set true i).mp h
    have h' := (mem_slotM_set false i).mp h'
    rw [h] at h'; exact absurd h' (by decide)

theorem slots_cover : (slotM true).view.set ∪ (slotM false).view.set = Finset.univ :=
  Finset.eq_univ_iff_forall.mpr fun i => by
    rw [Finset.mem_union]
    have h0 : (i (0 : Fin 3)).val < 2 := (i (0 : Fin 3)).isLt
    rcases Nat.lt_or_ge (i (0 : Fin 3)).val 1 with h | h
    · exact Or.inl ((mem_slotM_set true i).mpr (by show _ = 0; omega))
    · exact Or.inr ((mem_slotM_set false i).mpr (by show _ = 1; omega))

/-! ## The semaphore cells -/

/-- A device's cells: `none` the barrier, `some (d, false)` the send cell and `some (d, true)` the receive cell of direction `d`. -/
abbrev Cell : Type := Option (Bool × Bool)
abbrev barK : Cell := none
abbrev sndK (d : Bool) : Cell := some (d, false)
abbrev rcvK (d : Bool) : Cell := some (d, true)

abbrev barS : Sem sig := (SemArray.scalar (sig.barrier 0 rfl) : Sems sig S_).sem
abbrev sndS (d : Bool) : DmaSem sig := ((cc0_scratch1.slice (Rect.unit (s := S2) ![slotIx d] S1.size (sem_inb d))).squeeze S_ squeezes_S1_S_).sem
abbrev rcvS (d : Bool) : DmaSem sig := ((cc0_scratch2.slice (Rect.unit (s := S2) ![slotIx d] S1.size (sem_inb d))).squeeze S_ squeezes_S1_S_).sem

/-- The semaphore of a cell. -/
abbrev semOf : Cell → SemLoc sig := fun
  | none => .reg barS
  | some (d, false) => .dma (sndS d)
  | some (d, true) => .dma (rcvS d)

theorem semOf_injective : Function.Injective semOf := by
  have h : ∀ k k' : Cell, semOf k = semOf k' → k = k' := by decide
  exact fun k k' => h k k'

/-- Cell `k` of device `c`. -/
abbrev cellAt (c : Dev nD) (k : Cell) : GSem nD τ sig := ((c : Thread nD τ), semOf k)

theorem cellAt_inj {a b : Dev nD} {j k : Cell} : cellAt a j = cellAt b k ↔ a = b ∧ j = k :=
  ⟨fun h => ⟨Fin.ext (congrArg (fun g : GSem nD τ sig => g.1.1.val) h), semOf_injective (congrArg Prod.snd h)⟩, fun h => by rw [h.1, h.2]⟩

/-- Which cell a semaphore is, if any. -/
def kindOf (s : SemLoc sig) : Option Cell :=
  if s = semOf barK then some barK
  else if s = semOf (sndK true) then some (sndK true) else if s = semOf (sndK false) then some (sndK false)
  else if s = semOf (rcvK true) then some (rcvK true) else if s = semOf (rcvK false) then some (rcvK false) else none

theorem kindOf_semOf (k : Cell) : kindOf (semOf k) = some k := by revert k; decide

end Cert.HaloProof

end
-- ==== Proof.Schedule.lean ====
/-
# Who pays which semaphore, and with what

One round per cell. A device's barrier cell waits for two units, one per direction `d`: the device
that direction `d` leads to pays it, and hands over its own halo slot of that direction — the
permission to write there. A send cell returns the row that was being read; a receive cell delivers
the device's own halo slot, now holding the row its other neighbour sent.

The rows are lent for reading only: half of each row's share travels, the other half of the block
stays with its device, which reads the whole block while the copies are in flight.
-/
module

public import proofs.«01_k».proof.Proof.Places
public import proofs.«01_k».proof.Proof.Gen.KernelIdeal.Launch
public import Idealize.ShloMosaic.Lib.Pipeline.Kit

@[expose] public section

noncomputable section

namespace Cert.HaloProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: the launch's own rounds beside this kernel's, whose duties are named by a direction. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The contents that travel -/

/-- The block of `x` on device `c`, as the launch stages it. -/
def xblk (c : Dev nD) : (cc0_stg0_0 : Ref sig .tc).ty.Contents (Elt F) :=
  (win0_0.blk (0 : Fin 1)).view.read (Elt F) (m ((c : Thread nD τ).loc main_arg0))

/-- Half a share of the row device `c` sends in direction `d`. -/
def rowPts (c : Dev nD) (d : Bool) : sProp 𝕄 :=
  (rowM d).view.loc (c : Thread nD τ) ↦[(rowM d).view.set]{fullShare.right} xblk m c

/-- Device `c`'s halo slot of direction `d`, at contents `f`. -/
def slotPts (c : Dev nD) (d : Bool) (f : Buf (Elt F) ((slotM d).view.loc (c : Thread nD τ))) : sProp 𝕄 :=
  (slotM d).view.loc (c : Thread nD τ) ↦[(slotM d).view.set]{fullShare} f

/-- Device `c`'s halo slot of direction `d`, holding the row its neighbour on the other side sent. -/
def filled (c : Dev nD) (d : Bool) : sProp 𝕄 :=
  iprop(∃ f, ⌜(slotM d).view.read (Elt F) f = (rowM d).view.read (Elt F) (xblk m (toward (!d) c))⌝ ∗ slotPts c d f)

/-- What the unit of direction `d` brings to `c`'s barrier: the slot to write on the other side. -/
def grant (c : Dev nD) (d : Bool) : sProp 𝕄 := iprop(∃ f, slotPts (F := F) (toward d c) d f)

omit [FloatOps F] in
instance rowPts_storable (c : Dev nD) (d : Bool) : BI.Storable (upEmb : UEmb _ 𝕄) (rowPts (F := F) m c d) := by unfold rowPts; infer_instance
omit [FloatOps F] in
instance slotPts_storable (c : Dev nD) (d : Bool) (f) : BI.Storable (upEmb : UEmb _ 𝕄) (slotPts (F := F) c d f) := by unfold slotPts; infer_instance
omit [FloatOps F] in
instance filled_storable (c : Dev nD) (d : Bool) : BI.Storable (upEmb : UEmb _ 𝕄) (filled (F := F) m c d) := by unfold filled; infer_instance
omit [FloatOps F] in
instance grant_storable (c : Dev nD) (d : Bool) : BI.Storable (upEmb : UEmb _ 𝕄) (grant (F := F) c d) := by unfold grant; infer_instance

/-! ## The schedule -/

/-- The duties of a cell: both directions at a barrier, one (named `true`) at a send or receive cell. -/
def dutiesOf : Option Cell → Finset Bool
  | some none => Finset.univ
  | some (some _) => {true}
  | none => ∅

/-- What a duty adds to the cell: one unit at a barrier, a row's bytes elsewhere. -/
def unitsOf : Option Cell → ℕ
  | some (some _) => N
  | _ => 1

/-- What a duty of cell `k` of device `c` delivers. -/
def payOf (c : Dev nD) : Option Cell → Bool → sProp 𝕄
  | some none, b => grant c b
  | some (some (d, false)), _ => rowPts m c d
  | some (some (d, true)), _ => filled m c d
  | none, _ => iprop(emp)

/-- The schedule: everything happens in round 0. -/
def sched : Rounds.Schedule (GSem nD τ sig) Bool 𝕄 where
  duties g r := if r = 0 ∧ g.1.2 = .tc then dutiesOf (kindOf g.2) else ∅
  unitless _ := False
  amount g _ _ := unitsOf (kindOf g.2)
  payload g _ b := payOf m g.1.1 (kindOf g.2) b
  amount_pos g _ _ _ := by
    rcases h : kindOf g.2 with _ | _ | _
    · exact Nat.one_pos
    · exact Nat.one_pos
    · exact N_pos

instance sched_storable (g : GSem nD τ sig) (r : ℕ) (b : Bool) : BI.Storable (upEmb : UEmb _ 𝕄) ((sched (F := F) m).payload g r b) := by
  show BI.Storable upEmb (payOf m g.1.1 (kindOf g.2) b)
  rcases kindOf g.2 with _ | _ | ⟨d, _ | _⟩ <;> unfold payOf <;> infer_instance

section Tables
variable (c : Dev nD)

omit [FloatOps F] in
theorem duties_at (k : Cell) : (sched (F := F) m).duties (cellAt c k) 0 = dutiesOf (some k) := by
  dsimp only [sched]; rw [if_pos ⟨rfl, rfl⟩, kindOf_semOf]
omit [FloatOps F] in
theorem duties_later (g : GSem nD τ sig) : ∀ r, 1 ≤ r → (sched (F := F) m).duties g r = ∅ :=
  fun r hr => by dsimp only [sched]; rw [if_neg fun h => by omega]
omit [FloatOps F] in
theorem amount_at (k : Cell) (b : Bool) : (sched (F := F) m).amount (cellAt c k) 0 b = unitsOf (some k) := by
  dsimp only [sched]; rw [kindOf_semOf]
omit [FloatOps F] in
theorem payload_at (k : Cell) (b : Bool) : (sched (F := F) m).payload (cellAt c k) 0 b = payOf m c (some k) b := by
  dsimp only [sched]; rw [kindOf_semOf]

omit [FloatOps F] in
/-- A barrier waits for two units, -/
theorem expect_bar : (sched (F := F) m).expect (cellAt c barK) 0 = 2 := by
  unfold Schedule.expect Schedule.amountOf
  rw [duties_at, Finset.sum_congr rfl fun b _ => amount_at m c barK b]; rfl
omit [FloatOps F] in
/-- a send or receive cell for a row's bytes. -/
theorem expect_dma (x : Bool × Bool) : (sched (F := F) m).expect (cellAt c (some x)) 0 = N := by
  unfold Schedule.expect Schedule.amountOf
  rw [duties_at, Finset.sum_congr rfl fun b _ => amount_at m c (some x) b]
  exact Finset.sum_singleton _ _

omit [FloatOps F] in
/-- The barrier's round delivers both neighbours' slots, -/
theorem rest_bar : bigSep ((sched (F := F) m).duties (cellAt c barK) 0 \ ∅) (fun b => (sched (F := F) m).payload (cellAt c barK) 0 b)
    = iprop(grant (F := F) c true ∗ grant (F := F) c false) := by
  rw [Finset.sdiff_empty, duties_at, show dutiesOf (some barK) = Finset.univ from rfl,
    bigSep_univ_eq_bigSepL [true, false] (by decide) (by decide), bigSepL_cons_cons, bigSepL_singleton, payload_at, payload_at]
  rfl
omit [FloatOps F] in
/-- any other cell's its one payload. -/
theorem rest_dma (x : Bool × Bool) : bigSep ((sched (F := F) m).duties (cellAt c (some x)) 0 \ ∅) (fun b => (sched (F := F) m).payload (cellAt c (some x)) 0 b)
    = payOf m c (some (some x)) true := by
  rw [Finset.sdiff_empty, duties_at, show dutiesOf (some (some x)) = {true} from rfl, bigSep_singleton, payload_at]

end Tables

/-! ## What a device owes at launch, and the order of the waits -/

/-- The rows still to be sent, last first, then the two barrier units: the list peels from the right in program order
    (unit to the previous device, unit to the next, copy to the next, copy to the previous). -/
def owed1 (c : Dev nD) : CellTallies nD τ sig Unit := tallyAt (cellAt (toward false c) (rcvK false)) () N
def owed2 (c : Dev nD) : CellTallies nD τ sig Unit := owed1 c + tallyAt (cellAt (toward true c) (rcvK true)) () N
def owed3 (c : Dev nD) : CellTallies nD τ sig Unit := owed2 c + tallyAt (cellAt (toward true c) barK) () 1
def owed4 (c : Dev nD) : CellTallies nD τ sig Unit := owed3 c + tallyAt (cellAt (toward false c) barK) () 1

def L (g : GSem nD τ sig) : Finset Unit := if g.1.2 = .tc then {()} else ∅
/-- Barriers are waited for first, receive cells later; every other wait owes nothing above it. -/
def rank : Option Cell → ℕ
  | some none => 1
  | some (some (_, true)) => 2
  | _ => 0
def lv (g : GSem nD τ sig) (_ : Unit) : ℕ := rank (kindOf g.2)

theorem lv_at (c : Dev nD) (k : Cell) : lv (cellAt c k) () = rank (some k) := by unfold lv; rw [kindOf_semOf]
theorem L_of_ne (g : GSem nD τ sig) (h : g.1.2 ≠ .tc) : L g = ∅ := if_neg h

/-- Everything in `O` lies on a TensorCore, above level `b`. -/
def Above (b : ℕ) (O : CellTallies nD τ sig Unit) : Prop := ∀ g u, 0 < O g u → g.1.2 = .tc ∧ b < lv g u

theorem above_tally {b : ℕ} (c : Dev nD) (k : Cell) (n : ℕ) (h : b < rank (some k)) : Above b (tallyAt (cellAt c k) () n) := by
  intro g u hg
  rw [tallyAt_apply] at hg
  by_cases hc : g = cellAt c k ∧ u = ()
  · rw [hc.1, lv_at]; exact ⟨rfl, h⟩
  · rw [if_neg hc] at hg; exact absurd hg (Nat.lt_irrefl 0)

theorem above_add {b : ℕ} {O O' : CellTallies nD τ sig Unit} (h : Above b O) (h' : Above b O') : Above b (O + O') := by
  intro g u hg
  rw [Pi.add_apply, Finsupp.add_apply] at hg
  rcases Nat.eq_zero_or_pos (O g u) with h0 | hp
  · exact h' g u (by omega)
  · exact h g u hp

theorem above_owed2 (c : Dev nD) : Above 1 (owed2 c) := above_add (above_tally _ _ _ (by decide)) (above_tally _ _ _ (by decide))
theorem above_owed4 (c : Dev nD) : Above 0 (owed4 c) :=
  above_add (above_add (above_add (above_tally _ _ _ (by decide)) (above_tally _ _ _ (by decide))) (above_tally _ _ _ (by decide))) (above_tally _ _ _ (by decide))

omit [FloatOps F] in
/-- A device may wait on a semaphore below everything it owes. -/
theorem mayWait (c : Dev nD) (s : SemLoc sig) (b : ℕ) (hs : rank (kindOf s) ≤ b) (O : CellTallies nD τ sig Unit) (hO : Above b O) :
    (levAts L lv : sProp 𝕄) ⊢ MayWait (c : Thread nD τ) s () O :=
  MayOwe.of_cut (L := L) (lev := lv) b
    (fun p hp => by rw [Finset.mem_singleton.mp hp, L, if_pos rfl]; exact Finset.mem_singleton_self _)
    (fun g u hg => by rw [L, if_pos (hO g u hg).1]; exact Finset.mem_singleton_self _)
    (fun p hp => by rw [Finset.mem_singleton.mp hp]; exact hs)
    (fun g u hg => (hO g u hg).2)

end Cert.HaloProof

end
-- ==== Proof.Steps.lean ====
/-
# The protocol's steps, one per kind of operation

Signal a neighbour, wait at the barrier, send a row, wait for a row: each stated once for both
directions, from the shared records (every cell's invariant and that its round 0 has begun).
-/
module

public import proofs.«01_k».proof.Proof.Schedule

@[expose] public section

noncomputable section

namespace Cert.HaloProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The shared records -/

/-- Every cell's invariant, under the names `K` it was allocated at, and that its round 0 has begun. -/
def records (K : Dev nD × Cell → ℕ) : sProp 𝕄 :=
  iprop((bigSep Finset.univ fun ck : Dev nD × Cell => cellInv ER (sched m) (K ck) (cellAt ck.1 ck.2))
    ∗ bigSep Finset.univ fun ck : Dev nD × Cell => reached ER (cellAt ck.1 ck.2) 0)

instance records_persistent (K : Dev nD × Cell → ℕ) : BI.Persistent (records (F := F) m K) := by unfold records; infer_instance

omit [FloatOps F] in
theorem inv_at (K : Dev nD × Cell → ℕ) (x : Dev nD × Cell) :
    (bigSep Finset.univ fun ck : Dev nD × Cell => (cellInv ER (sched m) (K ck) (cellAt ck.1 ck.2) : sProp 𝕄)) ⊢ cellInv ER (sched m) (K x) (cellAt x.1 x.2) :=
  bigSep_elim (Finset.mem_univ x)
omit [FloatOps F] in
theorem begun_at (x : Dev nD × Cell) :
    (bigSep Finset.univ fun ck : Dev nD × Cell => (reached ER (cellAt ck.1 ck.2) 0 : sProp 𝕄)) ⊢ reached ER (cellAt x.1 x.2) 0 :=
  bigSep_elim (Finset.mem_univ x)

omit [FloatOps F] in
theorem inv_of (K : Dev nD × Cell → ℕ) (c : Dev nD) (k : Cell) : records (F := F) m K ⊢ cellInv ER (sched m) (K (c, k)) (cellAt c k) := by
  unfold records
  iintro ⟨HI, HR⟩
  iapply (inv_at m K (c, k)); iexact HI

omit [FloatOps F] in
theorem begun_of (K : Dev nD × Cell → ℕ) (c : Dev nD) (k : Cell) : records (F := F) m K ⊢ reached ER (cellAt c k) 0 := by
  unfold records
  iintro ⟨HI, HR⟩
  iapply (begun_at (F := F) (c, k)); iexact HR

variable (K : Dev nD × Cell → ℕ)

/-! ## The barrier -/

omit [FloatOps F] in
theorem payload_unit (c : Dev nD) (d : Bool) :
    (sched (F := F) m).payload (cellAt (toward d c) barK) 0 (!d) = iprop(∃ f, slotPts (F := F) c (!d) f) := by
  rw [payload_at m (toward d c) barK]
  show grant (toward d c) (!d) = _
  unfold grant; rw [toward_not]

/-- Device `c` signals the device direction `d` leads to, handing over its own halo slot of the other direction. -/
theorem wp_signal_dir (c n : Dev nD) (d : Bool) (hn : n = toward d c) {α : Type} {Q : α → sProp 𝕄}
    {k : PUnit → Prog (TpuEff nD τ sig (Elt F) Λ₀ .tc) α} (O : CellTallies nD τ sig Unit) (W : Waits sig Unit) :
    iprop(records m K ∗ owes (c : Thread nD τ) (O + tallyAt (cellAt (toward d c) barK) () 1) W
        ∗ dutyTok ER (cellAt (toward d c) barK) 0 (!d) ∗ ∃ f, slotPts (F := F) c (!d) f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toNat) k) Q) := by
  subst hn
  iintro ⟨#HR, HO, Htok, Hslot⟩
  iapply (Rounds.wp_signal 𝒱₀ ER (sched m) (c : Thread nD τ) none (dst := (toward d c : Thread nD τ)) (κ := K (toward d c, barK)) (d := !d)
      (by rw [duties_at m (toward d c) barK]; exact Finset.mem_univ _) ((amount_at m (toward d c) barK (!d)).trans (by decide)) () O rfl)
  isplitr; · iapply (inv_of m K (toward d c) barK); iexact HR
  isplitl [HO]; · iexact HO
  isplitl [Htok]; · iexact Htok
  isplitl [Hslot]
  · rw [payload_unit m c d]; iexact Hslot
  iapply (begun_of m K (toward d c) barK); iexact HR

/-- Device `c` waits for both neighbours' units: their slots come with them, and its barrier is done with. -/
theorem wp_wait_barrier (c : Dev nD) {α : Type} {Q : α → sProp 𝕄}
    {k : PUnit → Prog (TpuEff nD τ sig (Elt F) Λ₀ .tc) α} (O : CellTallies nD τ sig Unit) (hO : Above 1 O) (W : Waits sig Unit) :
    iprop(records m K ∗ levAts L lv ∗ cred (tallyAt (cellAt c barK) () 2) ∗ owes (c : Thread nD τ) O W ∗ atPos ER (cellAt c barK) 0 ∅ 0)
      ⊢ iprop(((owes (c : Thread nD τ) O (insert (semOf barK, ()) W) ∗ semVal (cellAt c barK) 0 ∗ grant (F := F) c true ∗ grant (F := F) c false)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32 : BitVec 32).toNat) k) Q) := by
  iintro ⟨#HR, #Hlev, Hc, HO, Hat⟩ Hk
  iapply (Rounds.wp_wait_rest_token 𝒱₀ ER (sched m) (c : Thread nD τ) none (κ := K (c, barK))
      (wpE_semWait_eq 𝒱₀ (c : Thread nD τ) none Set.univ) (Set.mem_univ _) () (O := O) (W := W) (R := 0) (m := 0) (T := ∅)
      (by rw [show ((c : Thread nD τ), SemLoc.reg barS) = cellAt c barK from rfl, expect_bar m c]; decide)) $$ [Hc HO Hat]
  · isplitr; · iapply (inv_of m K c barK); iexact HR
    isplitl [Hc]; · iexact Hc
    isplitl [HO]; · iexact HO
    isplitr; · iapply (mayWait c (semOf barK) 1 (by decide) O hO); iexact Hlev
    iexact Hat
  iintro ⟨HO, Hat, -, Hpay⟩
  ihave Hp := (Entails.of_eq (rest_bar m c)) $$ Hpay
  icases Hp with ⟨H1, H2⟩
  imod (Rounds.cell_close ER (sched m) (Set.mem_univ (K (c, barK))) (fun h => h) (R := 0 + 1) (duties_later m (cellAt c barK))) $$ [Hat] with Hz
  · isplitr; · iapply (inv_of m K c barK); iexact HR
    iexact Hat
  iapply Hk
  isplitl [HO]; · iexact HO
  isplitl [Hz]; · iexact Hz
  isplitl [H1] <;> iassumption

/-! ## The copies -/

omit [FloatOps F] in
/-- What lands is the row that was read. -/
theorem landing (c : Dev nD) (d : Bool) (f : Buf (Elt F) ((slotM d).view.loc (toward d c : Thread nD τ))) :
    slotPts (toward d c) d ((slotM d).view.write (Elt F) f ((rowM d).view.read (Elt F) (xblk m c)) Finset.univ) ⊢ filled m (toward d c) d := by
  unfold filled
  iintro H
  iexists ((slotM d).view.write (Elt F) f ((rowM d).view.read (Elt F) (xblk m c)) Finset.univ)
  isplitr
  · ipureintro; rw [toward_not]; exact View.read_write_univ _ _
  iexact H

/-- Device `c` sends its row of direction `d` into the slot the receiver granted. -/
theorem wp_send_dir (c n : Dev nD) (d : Bool) (hn : n = toward d c) {hsc : (slotM d : Memref sig (Dev.tc n : Thread nD τ).2.kind .vmem S1x512 .f32).view.ref.isScScratch = false}
    {hsrc : (rowM d).view.WordExact} {hdst : (slotM d).view.WordExact}
    {hsem : DmaTarget.Typed .vmem (.dma (rcvS d)) (.remote (Dev.tc n : Thread nD τ) (slotM d : Memref sig .tc .vmem S1x512 .f32) (.dma (sndS d)) hsc)}
    {α : Type} {Q : α → sProp 𝕄} {k : PUnit → Prog (TpuEff nD τ sig (Elt F) Λ₀ .tc) α} (O : CellTallies nD τ sig Unit) (W : Waits sig Unit) :
    iprop(records m K ∗ rowPts m c d ∗ grant (F := F) c d
        ∗ owes (c : Thread nD τ) (O + tallyAt (cellAt (toward d c) (rcvK d)) () N) W
        ∗ dutyTok ER (cellAt c (sndK d)) 0 true ∗ dutyTok ER (cellAt (toward d c) (rcvK d)) 0 true)
      ⊢ iprop(((cred (tallyAt (cellAt c (sndK d)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM d) (.remote (Dev.tc n : Thread nD τ) (slotM d) (.dma (sndS d)) hsc) (.dma (rcvS d)) hsrc hdst hsem) k) Q) := by
  subst hn
  unfold grant
  iintro ⟨#HR, Hrow, ⟨%f, Hslot⟩, HO, Ht1, Ht2⟩
  have hd₁ : true ∈ (sched (F := F) m).duties ((c : Thread nD τ), SemLoc.dma (sndS d)) 0 := by
    rw [show ((c : Thread nD τ), SemLoc.dma (sndS d)) = cellAt c (sndK d) from rfl, duties_at m c (sndK d)]; exact Finset.mem_singleton_self _
  have hd₂ : true ∈ (sched (F := F) m).duties ((toward d c : Thread nD τ), SemLoc.dma (rcvS d)) 0 := by
    rw [show ((toward d c : Thread nD τ), SemLoc.dma (rcvS d)) = cellAt (toward d c) (rcvK d) from rfl, duties_at m (toward d c) (rcvK d)]; exact Finset.mem_singleton_self _
  have hp₁ : ((rowM d).view.loc (c : Thread nD τ) ↦[(rowM d).view.set]{fullShare.right} xblk m c) ⊢ (sched (F := F) m).payload ((c : Thread nD τ), SemLoc.dma (sndS d)) 0 true := by
    rw [show ((c : Thread nD τ), SemLoc.dma (sndS d)) = cellAt c (sndK d) from rfl, payload_at m c (sndK d)]
    show _ ⊢ rowPts m c d
    unfold rowPts; exact BI.Entails.refl _
  have hp₂ : ((slotM d).view.loc (toward d c : Thread nD τ) ↦[(slotM d).view.set]{fullShare} ((slotM d).view.write (Elt F) f ((rowM d).view.read (Elt F) (xblk m c)) Finset.univ))
      ⊢ (sched (F := F) m).payload ((toward d c : Thread nD τ), SemLoc.dma (rcvS d)) 0 true := by
    rw [show ((toward d c : Thread nD τ), SemLoc.dma (rcvS d)) = cellAt (toward d c) (rcvK d) from rfl, payload_at m (toward d c) (rcvK d)]
    exact landing m c d f
  have hk₁ : (sched (F := F) m).amount ((c : Thread nD τ), SemLoc.dma (sndS d)) 0 true = N := amount_at m c (sndK d) true
  have hk₂ : (sched (F := F) m).amount ((toward d c : Thread nD τ), SemLoc.dma (rcvS d)) 0 true = N := amount_at m (toward d c) (rcvK d) true
  have hN : (slotM d).view.amount (SemLoc.dma (sig := sig) (rcvS d)) = N := slot_credit d
  iapply (Rounds.wp_send_pointsTo 𝒱₀ ER (sched m) (c : Thread nD τ) none (κ₁ := K (c, sndK d)) (κ₂ := K (toward d c, rcvK d))
    (r₁ := 0) (r₂ := 0) (d₁ := true) (d₂ := true) (c' := (toward d c : Thread nD τ)) (src := rowM d) (dst := slotM d) (q := fullShare.right) (fs := xblk m c) (fd := f)
    hd₁ hd₂ () () N hN hk₁ hk₂ O rfl (W := W) hp₁ hp₂)
  isplitr; · iapply (inv_of m K c (sndK d)); iexact HR
  isplitr; · iapply (inv_of m K (toward d c) (rcvK d)); iexact HR
  isplitl [Hrow]; · unfold rowPts; iexact Hrow
  isplitl [Hslot]; · unfold slotPts; iexact Hslot
  isplitl [HO]; · iexact HO
  isplitl [Ht1]; · iexact Ht1
  isplitr; · iapply (begun_of m K c (sndK d)); iexact HR
  isplitl [Ht2]; · iexact Ht2
  iapply (begun_of m K (toward d c) (rcvK d)); iexact HR

/-- Device `c` waits for a row's bytes on one of its copy semaphores: what that copy delivers comes with them, and the
    cell is done with. -/
theorem wp_wait_row (c : Dev nD) (x : Bool × Bool) (s : DmaSem sig) (hs : semOf (some x) = .dma s)
    {sp sp' : Space} {e e' : EltTy} {src : Memref sig .tc sp S1x512 e} {dst : Memref sig .tc sp' S1x512 e'} (hN : dst.view.dmaCredit = N)
    {h1 : src.view.WordExact} {h2 : dst.view.WordExact}
    {α : Type} {Q : α → sProp 𝕄} {k : PUnit → Prog (TpuEff nD τ sig (Elt F) Λ₀ .tc) α} (W : Waits sig Unit) :
    iprop(records m K ∗ cred (tallyAt (cellAt c (some x)) () N) ∗ owes (c : Thread nD τ) 0 W ∗ atPos ER (cellAt c (some x)) 0 ∅ 0)
      ⊢ iprop(((owes (c : Thread nD τ) 0 (insert (semOf (some x), ()) W) ∗ semVal (cellAt c (some x)) 0 ∗ payOf m c (some (some x)) true)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  have hc : cellAt c (some x) = ((c : Thread nD τ), SemLoc.dma s) := by unfold cellAt; rw [hs]
  iintro ⟨#HR, Hc, HO, Hat⟩ Hk
  rw [hc, hs]
  iapply (Rounds.wp_wait_rest_token 𝒱₀ ER (sched m) (c : Thread nD τ) none (κ := K (c, some x))
      (wpE_waitDma2_eq 𝒱₀ (c : Thread nD τ) none Set.univ) (Set.mem_univ _) () (O := 0) (W := W) (R := 0) (m := 0) (T := ∅)
      (by rw [Nat.zero_add, ← hc, expect_dma m c x, hN])) $$ [Hc HO Hat]
  · isplitr; · rw [← hc]; iapply (inv_of m K c (some x)); iexact HR
    isplitl [Hc]; · rw [hN]; iexact Hc
    isplitl [HO]; · iexact HO
    isplitr; · rw [MayWait_zero]; iempintro
    iexact Hat
  iintro ⟨HO, Hat, -, Hpay⟩
  rw [← hc]
  ihave Hp := (Entails.of_eq (rest_dma m c x)) $$ Hpay
  imod (Rounds.cell_close ER (sched m) (Set.mem_univ (K (c, some x))) (fun h => h) (R := 0 + 1) (duties_later m (cellAt c (some x)))) $$ [Hat] with Hz
  · isplitr; · iapply (inv_of m K c (some x)); iexact HR
    iexact Hat
  iapply Hk
  isplitl [HO]; · iexact HO
  isplitl [Hz]; · iexact Hz
  iexact Hp

end Cert.HaloProof

end
-- ==== Proof.Windows.lean ====
/-
# Cutting the buffers

The block of `x` splits into one half of its share, kept whole for the loads, and the other half cut
into the two rows that travel and the rest. The halo splits into its two slots. Both are put
together again at the end.
-/
module

public import proofs.«01_k».proof.Proof.Schedule

@[expose] public section

noncomputable section

namespace Cert.HaloProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The whole block of `x`, and half a share of it. -/
def xWhole (c : Dev nD) : sProp 𝕄 := xM.view.loc (c : Thread nD τ) ↦[Finset.univ]{fullShare} xblk m c
def xHalf (c : Dev nD) : sProp 𝕄 := xM.view.loc (c : Thread nD τ) ↦[Finset.univ]{fullShare.left} xblk m c
/-- The rows that do not travel, at the other half. -/
def xRest (c : Dev nD) : sProp 𝕄 :=
  xM.view.loc (c : Thread nD τ) ↦[(Finset.univ \ (rowM true).view.set) \ (rowM false).view.set]{fullShare.right} xblk m c

omit [FloatOps F] in
theorem x_split (c : Dev nD) : xWhole m c ⊣⊢ iprop(xHalf m c ∗ rowPts m c true ∗ rowPts m c false ∗ xRest m c) := by
  have hsub : (rowM false).view.set ⊆ Finset.univ \ (rowM true).view.set := fun i hi =>
    Finset.mem_sdiff.mpr ⟨Finset.mem_univ _, fun h => Finset.disjoint_left.mp rows_disjoint h hi⟩
  have h1 := pointsTo_share (Ix := Unit) (Name := ℕ) (U := UU) (Lvl := ℕ) (I := Finset.univ) (f := xblk m c) (ℓ := xM.view.loc (c : Thread nD τ)) (PosShare.mem_left_op_right fullShare)
  have h2 := pointsTo_split_subset (Ix := Unit) (Name := ℕ) (U := UU) (Lvl := ℕ) (q := fullShare.right) (f := xblk m c) (ℓ := xM.view.loc (c : Thread nD τ)) (Finset.subset_univ (rowM true).view.set)
  have h3 := pointsTo_split_subset (Ix := Unit) (Name := ℕ) (U := UU) (Lvl := ℕ) (q := fullShare.right) (f := xblk m c) (ℓ := xM.view.loc (c : Thread nD τ)) hsub
  unfold xWhole xHalf rowPts xRest
  exact ⟨h1.1.trans (sep_mono_right (h2.1.trans (sep_mono_right h3.1))), (sep_mono_right ((sep_mono_right h3.2).trans h2.2)).trans h1.2⟩

/-- The halo whole, at some contents. -/
def haloPts (c : Dev nD) : sProp 𝕄 := iprop(∃ f : Buf (Elt F) ((c : Thread nD τ).loc cc0_scratch0), ((c : Thread nD τ).loc cc0_scratch0) ↦{fullShare} f)

omit [FloatOps F] in
theorem halo_split (c : Dev nD) : haloPts (F := F) c ⊢ iprop((∃ f, slotPts (F := F) c true f) ∗ ∃ f, slotPts (F := F) c false f) := by
  unfold haloPts slotPts
  iintro ⟨%f, H⟩
  ihave H' := ((Entails.of_eq (by rw [slots_cover])).trans (pointsTo_union (Ix := Unit) (Name := ℕ) (U := UU) (Lvl := ℕ) (q := fullShare) (f := f) (ℓ := hM.view.loc (c : Thread nD τ)) slots_disjoint).1) $$ H
  icases H' with ⟨H1, H2⟩
  isplitl [H1]
  · iexists f; iexact H1
  · iexists f; iexact H2

omit [FloatOps F] in
theorem halo_join (c : Dev nD) (f g) : iprop(slotPts (F := F) c true f ∗ slotPts c false g) ⊢ haloPts (F := F) c := by
  unfold haloPts slotPts
  iintro ⟨H1, H2⟩
  iexists ((slotM false).view.set.piecewise g f)
  ihave H := ((pointsTo_join (Ix := Unit) (Name := ℕ) (U := UU) (Lvl := ℕ) (q := fullShare) (f := f) (g := g) (ℓ := hM.view.loc (c : Thread nD τ)) slots_disjoint).trans
    (Entails.of_eq (by rw [slots_cover]))) $$ [H1 H2]
  · isplitl [H1] <;> iassumption
  iexact H

end Cert.HaloProof

end
-- ==== Proof.Output.lean ====
/-
# What one device computes

Every element of the result is a weighted mean of the element and its two vertical neighbours,
a quarter, a half and a quarter. Inside the block both neighbours are in the block; above the first
row stands the last row of the previous block, below the last row the first row of the next block.
The first row of the first block and the last row of the last block are copied unchanged.

Here that description is an equation (`outBlk`), and the three rectangles the kernel stores —
rows 1 to 510, then row 0, then row 511 — are shown to leave exactly that in the buffer.
-/
module

public import proofs.«01_k».proof.Proof.Places
public import proofs.«01_k».proof.Proof.Gen.KernelIdeal.Skeleton
public import Idealize.ShloMosaic.Lib.WritesUnit
public import Idealize.ShloMosaic.Lib.Pipeline.Value

@[expose] public section

noncomputable section

namespace Cert.HaloProof

open Cert.KernelIdeal Cert.KernelIdeal.Gen
open Idealize.ShloMosaic Idealize.ShloMosaic.TcCoe

variable {F : FTy → Type} [FloatOps F]

/-! ## The description -/

/-- A quarter, a half, and the weighted mean of three numbers, in the order both programs add. -/
abbrev quarter : F .f32 := FloatOps.ofBits .f32 0x3E800000#32
abbrev half : F .f32 := FloatOps.ofBits .f32 0x3F000000#32
def mix (a b e : F .f32) : F .f32 :=
  FloatOps.addf (FloatOps.addf (FloatOps.mulf quarter a) (FloatOps.mulf half b)) (FloatOps.mulf quarter e)

/-- The place `k` rows below `i`, counting round the block's 512 rows: `k = 1` is the row below, `k = 511` the row above. -/
def shiftRow (k : ℕ) (i : S512x512.Idx) : S512x512.Idx := Shape.pair (d := ![512, 512]) ⟨((i (0 : Fin 2)).val + k) % 512, Nat.mod_lt _ (by decide)⟩ (i (1 : Fin 2))

/-- Block `c` of the result, from the previous block `p`, the block itself `x` and the next block `n`. -/
def outBlk (c : Dev nD) (p x n : FVec F S512x512 .f32) : FVec F S512x512 .f32 := fun i =>
  if (c.val = 0 ∧ (i (0 : Fin 2)).val = 0) ∨ (c.val = 7 ∧ (i (0 : Fin 2)).val = 511) then x i
  else mix (if (i (0 : Fin 2)).val = 0 then p (shiftRow 511 i) else x (shiftRow 511 i)) (x i)
    (if (i (0 : Fin 2)).val = 511 then n (shiftRow 1 i) else x (shiftRow 1 i))

/-! ## Reading rows -/

omit [FloatOps F] in
/-- Two places with the same coordinates are the same place. -/
theorem idx2_ext {d : Fin 2 → ℕ} {x y : (⟨2, d⟩ : Shape).Idx} (h0 : (x 0).val = (y 0).val) (h1 : (x 1).val = (y 1).val) : x = y :=
  funext fun a => Fin.ext (by match a with | ⟨0, _⟩ => exact h0 | ⟨1, _⟩ => exact h1)

omit [FloatOps F] in
theorem shiftRow_val0 (k : ℕ) (i : S512x512.Idx) : (shiftRow k i 0).val = ((i 0).val + k) % 512 := rfl
omit [FloatOps F] in
theorem shiftRow_val1 (k : ℕ) (i : S512x512.Idx) : (shiftRow k i 1).val = (i 1).val := rfl

omit [FloatOps F] in
/-- The row that direction `d` sends, element by element. -/
theorem read_rowM (d : Bool) (f : FVec F S512x512 .f32) (j : S1x512.Idx) (k : S512x512.Idx) (h0 : (k 0).val = rowIx d) (h1 : (k 1).val = (j 1).val) :
    (rowM d).view.read (Elt F) f j = f k := by
  show f ((rowRect d).emb j) = f k
  refine congrArg f (idx2_ext ?_ ?_)
  · have hj : (j 0).val = 0 := Nat.lt_one_iff.mp (j 0).isLt
    show rowIx d + 1 * (j 0).val = _
    omega
  · show 0 + 1 * (j 1).val = _
    omega

omit [FloatOps F] in
/-- The kernel's load of a halo slot, with the unit axis dropped, is that slot read as one row. -/
theorem read_slot (d : Bool) (f : (cc0_scratch0 : Ref sig .tc).ty.Contents (Elt F)) :
    shapeCast S1x512 (hM.view.readAt (Elt F) (slotRect d).toLoadRect f) shapeCasts_S1x1x512_S1x512 = (slotM d).view.read (Elt F) f :=
  (Memref.read_squeeze_slice hM (slotRect d) (fun _ => rfl) squeezes_S1x1x512_S1x512 _ f).symm

/-! ## The device's own number -/

/-- The device's number, as the kernel computes it. -/
abbrev devWord (c : Dev nD) : BitVec 32 := Scalar.remsi (Scalar.divsi (Dev.word c) 1#32) 8#32

theorem first_iff (c : Dev nD) : Scalar.cmpi .eq (devWord c) 0#32 = 1 ↔ c.val = 0 := by revert c; decide +kernel
theorem last_iff (c : Dev nD) : Scalar.cmpi .eq (devWord c) 7#32 = 1 ↔ c.val = 7 := by revert c; decide +kernel

/-! ## The three stored rectangles -/

/-- Rows 1 to 510: an element of the stored rectangle, at its place in the block. -/
theorem middle_apply (x : FVec F S512x512 .f32) (j : S510x512.Idx) (i : S512x512.Idx) (h0 : (i 0).val = 1 + (j 0).val) (h1 : (i 1).val = (j 1).val) :
    k0_pay4 (F := F) x j = mix (x (shiftRow 511 i)) (x i) (x (shiftRow 1 i)) := by
  have hj : (j 0).val < 510 := (j 0).isLt
  unfold k0_pay4 k0_pay3
  rw [shapeCast_self]
  show mix (extractStridedSlice _ _ _ _ j) (extractStridedSlice _ _ _ _ j) (extractStridedSlice _ _ _ _ j) = _
  rw [extractStridedSlice_apply _ x _ j (shiftRow 511 i) ?_, extractStridedSlice_apply _ x _ j i ?_, extractStridedSlice_apply _ x _ j (shiftRow 1 i) ?_]
  · refine Fin.forall_fin_two.mpr ⟨?_, ?_⟩
    · show ((i 0).val + 1) % 512 = 2 + (j 0).val; omega
    · show (i 1).val = 0 + (j 1).val; omega
  · refine Fin.forall_fin_two.mpr ⟨?_, ?_⟩
    · show (i 0).val = 1 + (j 0).val; omega
    · show (i 1).val = 0 + (j 1).val; omega
  · refine Fin.forall_fin_two.mpr ⟨?_, ?_⟩
    · show ((i 0).val + 511) % 512 = 0 + (j 0).val; omega
    · show (i 1).val = 0 + (j 1).val; omega

/-- Row 0: with the halo slot holding `p`'s last row. -/
theorem top_apply (c : Dev nD) (p x : FVec F S512x512 .f32) (g : Vec F S1x1x512 .f32)
    (hg : shapeCast S1x512 g shapeCasts_S1x1x512_S1x512 = (rowM true).view.read (Elt F) p)
    (j : S1x512.Idx) (i : S512x512.Idx) (h0 : (i 0).val = 0) (h1 : (i 1).val = (j 1).val) :
    k0_pay1 (F := F) (devWord c) x g j = if c.val = 0 then x i else mix (p (shiftRow 511 i)) (x i) (x (shiftRow 1 i)) := by
  have hj : (j 0).val = 0 := Nat.lt_one_iff.mp (j 0).isLt
  have e0 : extractStridedSlice S1x512 ![0, 0] x slices_S512x512_o0_0_S1x512 j = x i :=
    extractStridedSlice_apply _ x _ j i (Fin.forall_fin_two.mpr ⟨by show _ = 0 + (j 0).val; omega, by show _ = 0 + (j 1).val; omega⟩)
  have e1 : extractStridedSlice S1x512 ![1, 0] x slices_S512x512_o1_0_S1x512 j = x (shiftRow 1 i) :=
    extractStridedSlice_apply _ x _ j _ (Fin.forall_fin_two.mpr ⟨by show ((i 0).val + 1) % 512 = 1 + (j 0).val; omega, by show (i 1).val = 0 + (j 1).val; omega⟩)
  have ep : (rowM true).view.read (Elt F) p j = p (shiftRow 511 i) := read_rowM true p j _ (by rw [shiftRow_val0]; show _ = 511; omega) h1
  unfold k0_pay1
  rw [hg]
  unfold Scalar.select
  by_cases hc : c.val = 0
  · rw [if_pos hc]
    show (if Scalar.cmpi .eq (devWord c) 0#32 = 1 then _ else _ : FVec F S1x512 .f32) j = _
    rw [if_pos ((first_iff c).mpr hc), e0]
  · rw [if_neg hc]
    show (if Scalar.cmpi .eq (devWord c) 0#32 = 1 then _ else _ : FVec F S1x512 .f32) j = _
    rw [if_neg (fun h => hc ((first_iff c).mp h))]
    show mix ((rowM true).view.read (Elt F) p j) (extractStridedSlice _ _ _ _ j) (extractStridedSlice _ _ _ _ j) = _
    rw [ep, e0, e1]

/-- Row 511: with the other slot holding `n`'s first row. -/
theorem bottom_apply (c : Dev nD) (n x : FVec F S512x512 .f32) (g : Vec F S1x1x512 .f32)
    (hg : shapeCast S1x512 g shapeCasts_S1x1x512_S1x512 = (rowM false).view.read (Elt F) n)
    (j : S1x512.Idx) (i : S512x512.Idx) (h0 : (i 0).val = 511) (h1 : (i 1).val = (j 1).val) :
    k0_pay2 (F := F) (devWord c) x g j = if c.val = 7 then x i else mix (x (shiftRow 511 i)) (x i) (n (shiftRow 1 i)) := by
  have hj : (j 0).val = 0 := Nat.lt_one_iff.mp (j 0).isLt
  have e0 : extractStridedSlice S1x512 ![511, 0] x slices_S512x512_o511_0_S1x512 j = x i :=
    extractStridedSlice_apply _ x _ j i (Fin.forall_fin_two.mpr ⟨by show _ = 511 + (j 0).val; omega, by show _ = 0 + (j 1).val; omega⟩)
  have e1 : extractStridedSlice S1x512 ![510, 0] x slices_S512x512_o510_0_S1x512 j = x (shiftRow 511 i) :=
    extractStridedSlice_apply _ x _ j _ (Fin.forall_fin_two.mpr ⟨by show ((i 0).val + 511) % 512 = 510 + (j 0).val; omega, by show (i 1).val = 0 + (j 1).val; omega⟩)
  have ep : (rowM false).view.read (Elt F) n j = n (shiftRow 1 i) := read_rowM false n j _ (by rw [shiftRow_val0]; show _ = 0; omega) h1
  unfold k0_pay2
  rw [hg]
  unfold Scalar.select
  by_cases hc : c.val = 7
  · rw [if_pos hc]
    show (if Scalar.cmpi .eq (devWord c) 7#32 = 1 then _ else _ : FVec F S1x512 .f32) j = _
    rw [if_pos ((last_iff c).mpr hc), e0]
  · rw [if_neg hc]
    show (if Scalar.cmpi .eq (devWord c) 7#32 = 1 then _ else _ : FVec F S1x512 .f32) j = _
    rw [if_neg (fun h => hc ((last_iff c).mp h))]
    show mix (extractStridedSlice _ _ _ _ j) (extractStridedSlice _ _ _ _ j) ((rowM false).view.read (Elt F) n j) = _
    rw [ep, e0, e1]

/-! ## The buffer after the three stores -/

abbrev midRect : Rect S512x512 := Rect.unit (s := S512x512) ![1, 0] S510x512.size inb_S512x512_S510x512_1_0

/-- Whatever the buffer held, the three stores leave the block of the result. -/
theorem stores_eq (c : Dev nD) (p x n : FVec F S512x512 .f32) (g g' : Vec F S1x1x512 .f32)
    (hg : shapeCast S1x512 g shapeCasts_S1x1x512_S1x512 = (rowM true).view.read (Elt F) p)
    (hg' : shapeCast S1x512 g' shapeCasts_S1x1x512_S1x512 = (rowM false).view.read (Elt F) n)
    (f : (cc0_stg1_0 : Ref sig .tc).ty.Contents (Elt F)) :
    (oM.access (rowRect true)).write (Elt F)
      ((oM.access (rowRect false)).write (Elt F)
        ((oM.access midRect).write (Elt F) f (k0_pay4 (F := F) x) Finset.univ)
        (k0_pay1 (F := F) (devWord c) x g) Finset.univ)
      (k0_pay2 (F := F) (devWord c) x g') Finset.univ
    = outBlk c p x n := by
  funext i
  show oM.view.read (Elt F) (oM.view.writes (Elt F) f
    [⟨rowRect true, k0_pay2 (F := F) (devWord c) x g'⟩, ⟨rowRect false, k0_pay1 (F := F) (devWord c) x g⟩, ⟨midRect, k0_pay4 (F := F) x⟩]) i = _
  have hi : (i (0 : Fin 2)).val < 512 := (i (0 : Fin 2)).isLt
  have hl : (i (1 : Fin 2)).val < 512 := (i (1 : Fin 2)).isLt
  unfold outBlk
  by_cases h511 : (i (0 : Fin 2)).val = 511
  · have h := bottom_apply c n x g' hg' (Shape.pair (d := ![1, 512]) ⟨0, by decide⟩ ⟨(i (1 : Fin 2)).val, hl⟩) i h511 rfl
    rw [View.read_writes_cons_rows_of_mem (d := ![512, 512]) (o := 511) oM.view f (row_inb true) _ _ i (Shape.pair (d := ![1, 512]) ⟨0, by decide⟩ ⟨(i (1 : Fin 2)).val, hl⟩) rfl h511 rfl]
    refine h.trans ?_
    rw [if_neg (show ¬ (i (0 : Fin 2)).val = 0 by omega), if_pos h511]
    by_cases hc : c.val = 7
    · rw [if_pos hc, if_pos (Or.inr ⟨hc, h511⟩)]
    · rw [if_neg hc, if_neg (by omega)]
  · rw [View.read_writes_cons_rows_of_not_mem (d := ![512, 512]) (o := 511) (W := 1) oM.view f (row_inb true) _ _ i rfl rfl (by omega)]
    by_cases h00 : (i (0 : Fin 2)).val = 0
    · have h := top_apply c p x g hg (Shape.pair (d := ![1, 512]) ⟨0, by decide⟩ ⟨(i (1 : Fin 2)).val, hl⟩) i h00 rfl
      rw [View.read_writes_cons_rows_of_mem (d := ![512, 512]) (o := 0) oM.view f (row_inb false) _ _ i (Shape.pair (d := ![1, 512]) ⟨0, by decide⟩ ⟨(i (1 : Fin 2)).val, hl⟩) rfl h00 rfl]
      refine h.trans ?_
      rw [if_pos h00, if_neg h511]
      by_cases hc : c.val = 0
      · rw [if_pos hc, if_pos (Or.inl ⟨hc, h00⟩)]
      · rw [if_neg hc, if_neg (by omega)]
    · rw [View.read_writes_cons_rows_of_not_mem (d := ![512, 512]) (o := 0) (W := 1) oM.view f (row_inb false) _ _ i rfl rfl (by omega)]
      have h := middle_apply x (Shape.pair (d := ![510, 512]) ⟨(i (0 : Fin 2)).val - 1, by show _ < 510; omega⟩ ⟨(i (1 : Fin 2)).val, hl⟩) i
        (by show _ = 1 + ((i (0 : Fin 2)).val - 1); omega) rfl
      rw [View.read_writes_cons_rows_of_mem (d := ![512, 512]) (o := 1) oM.view f inb_S512x512_S510x512_1_0 _ _ i
        (Shape.pair (d := ![510, 512]) ⟨(i (0 : Fin 2)).val - 1, by show _ < 510; omega⟩ ⟨(i (1 : Fin 2)).val, hl⟩) rfl (by show _ = 1 + ((i (0 : Fin 2)).val - 1); omega) rfl]
      refine h.trans ?_
      rw [if_neg h00, if_neg h511, if_neg (by omega)]

end Cert.HaloProof

end
-- ==== Proof.Body.lean ====
/-
# The kernel on one device

From what the launch deals it — its positions, the tokens of the duties it pays, its credit — the
body of device `c` runs to its end: the result's buffer holds `outBlk` of its own block and its two
neighbours', the block of `x` and the halo are whole again, and all five of its cells are back at zero.
-/
module

public import proofs.«01_k».proof.Proof.Steps
public import proofs.«01_k».proof.Proof.Windows
public import proofs.«01_k».proof.Proof.Output

@[expose] public section

noncomputable section

namespace Cert.HaloProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Before and after -/

/-- Block `c` of the result. -/
def outAt (c : Dev nD) : (cc0_stg1_0 : Ref sig .tc).ty.Contents (Elt F) :=
  outBlk c (xblk m (toward false c)) (xblk m c) (xblk m (toward true c))

/-- Device `c`'s positions, at the start of each of its cells, -/
def places (c : Dev nD) : sProp 𝕄 := bigSep Finset.univ fun k : Cell => atPos ER (cellAt c k) 0 ∅ 0
/-- and the tokens of the duties it pays in direction `d`: its unit at the barrier of that side, its copy there, and that copy's
    return to its own send cell. -/
def payToks (c : Dev nD) (d : Bool) : sProp 𝕄 :=
  iprop(dutyTok ER (cellAt (toward d c) barK) 0 (!d) ∗ dutyTok ER (cellAt (toward d c) (rcvK d)) 0 true ∗ dutyTok ER (cellAt c (sndK d)) 0 true)

def ghost (K : Dev nD × Cell → ℕ) (c : Dev nD) : sProp 𝕄 := iprop(records m K ∗ places c ∗ payToks c true ∗ payToks c false)

/-- Its credit: two units at its barrier, a row's bytes at each of its receive cells; and the order of the waits. -/
def credit (c : Dev nD) : sProp 𝕄 :=
  iprop(cred (tallyAt (cellAt c barK) () 2) ∗ cred (tallyAt (cellAt c (rcvK true)) () N) ∗ cred (tallyAt (cellAt c (rcvK false)) () N) ∗ levAts L lv)

def start (c : Dev nD) : sProp 𝕄 := iprop((∃ K, ghost m K c) ∗ credit c)

/-- The four copy cells of a device back at zero. -/
def copiesZero (c : Dev nD) : sProp 𝕄 :=
  iprop(semVal (cellAt c (sndK true)) 0 ∗ semVal (cellAt c (sndK false)) 0 ∗ semVal (cellAt c (rcvK true)) 0 ∗ semVal (cellAt c (rcvK false)) 0)

def Φ₀ (c : Dev nD) : sProp 𝕄 := iprop(start m c ∗ haloPts c)
def Φ₁ (c : Dev nD) : sProp 𝕄 := iprop(haloPts (F := F) c ∗ copiesZero c ∗ semVal (cellAt c barK) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => owed4 c
    | ⟨_ + 1, _⟩ => 0

theorem fin_point (t : Fin cfg0.N) : t = t0_0 := fin_N0 t
theorem fetch_x (t : Fin cfg0.N) : (cfg0.win (0 : Fin 2)).fetch t = true := by rw [fin_point t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ (F := F) c ∗ (dats m 0 c).owesAt () t0_0.succ ∗ stg c cc0_stg0_0 (xblk m c) ∗ stg c cc0_stg1_0 (outAt m c))

omit [FloatOps F] in
/-- The positions one by one. -/
theorem places_eq (c : Dev nD) : places (F := F) c = iprop(atPos ER (cellAt c barK) 0 ∅ 0 ∗ atPos ER (cellAt c (sndK true)) 0 ∅ 0
    ∗ atPos ER (cellAt c (sndK false)) 0 ∅ 0 ∗ atPos ER (cellAt c (rcvK true)) 0 ∅ 0 ∗ atPos ER (cellAt c (rcvK false)) 0 ∅ 0) :=
  bigSep_univ_eq_bigSepL [barK, sndK true, sndK false, rcvK true, rcvK false] (by decide) (by decide) _

omit [FloatOps F] in
theorem zeros : (![0, 0] : Fin 2 → Nat) = fun _ => 0 := funext fun a => by fin_cases a <;> rfl
omit [FloatOps F] in
/-- The load of the whole block reads the block. -/
theorem read_all (f : (cc0_stg0_0 : Ref sig .tc).ty.Contents (Elt F)) :
    xM.view.readAt (Elt F) (Rect.unit (s := S512x512) ![0, 0] S512x512.size inb_S512x512_S512x512_0_0).toLoadRect f = f :=
  Memref.readAt_unit_zero (Elt F) cc0_stg0_0 zeros _ f

omit [FloatOps F] in
/-- A load of halo slot `d` touches only that slot. -/
theorem slot_load_sub (d : Bool) : hM.view.setOn (slotRect d).toLoadRect.set ⊆ (slotM d).view.set := by
  intro i hi
  rw [show (slotM d).view.set = (slotRect d).set from (View.set_reshape _ _).trans (View.set_slice_whole _ _)]
  obtain ⟨j, hj, rfl⟩ := Finset.mem_map.mp hi
  exact hj

/-! ## The run of the body -/

set_option maxHeartbeats 1600000 in
set_option maxRecDepth 4000 in
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre Φ₀ start ghost payToks credit
  rw [places_eq]
  iintro ⟨⟨⟨⟨⟨%K, #HR, ⟨HaB, HaS, HaS', HaV, HaV'⟩, ⟨HtB, HtV, HtS⟩, HtB', HtV', HtS'⟩, HcB, HcV, HcV', #Hlev⟩, Hhalo⟩,
    Ho, ⟨%d0, %g0, %hg0, Hx⟩, ⟨%d1, %g1, %hg1, Hout⟩⟩, Hk⟩
  have hx : g0 = xblk m c := by rw [hg0]; unfold Dat.before; rw [if_pos (fetch_x t0_0)]; rfl
  subst hx
  unfold Dat.owesAt Pipeline.owesWithin
  icases Ho with ⟨%W, %hW, HO⟩
  rw [show (dats m 0 c).owed t0_0.castSucc = owed4 c from rfl]
  ihave Hh := (halo_split (F := F) c) $$ Hhalo
  icases Hh with ⟨Hs, Hs'⟩
  -- the unit to the previous device, with slot 0; the unit to the next, with slot 1
  unfold owed4
  iapply (wp_signal_dir m K c _ false (dev1_eq c) (owed3 c) W) $$ [HO HtB' Hs]
  · isplitr; · iexact HR
    isplitl [HO]; · iexact HO
    isplitl [HtB']; · iexact HtB'
    iexact Hs
  iintro HO
  unfold owed3
  iapply (wp_signal_dir m K c _ true (dev2_eq c) (owed2 c) W) $$ [HO HtB Hs']
  · isplitr; · iexact HR
    isplitl [HO]; · iexact HO
    isplitl [HtB]; · iexact HtB
    iexact Hs'
  iintro HO
  -- the barrier: both neighbours' slots
  iapply (wp_wait_barrier m K c (owed2 c) (above_owed2 c) W) $$ [HO HcB HaB]
  · isplitr; · iexact HR
    isplitr; · iexact Hlev
    isplitl [HcB]; · iexact HcB
    isplitl [HO] <;> iassumption
  iintro ⟨HO, HzB, Hn, Hp⟩
  -- the two copies, each lent its row
  ihave Hxs := ((show _ ⊢ xWhole m c from (by unfold xWhole; exact BI.Entails.refl _)).trans (x_split m c).1) $$ Hx
  icases Hxs with ⟨Hx, Hrow, Hrow', Hrest⟩
  unfold owed2
  iapply (wp_send_dir m K c _ true (dev3_eq c) (owed1 c) (insert (semOf barK, ()) W)) $$ [HO HtS HtV Hrow Hn]
  · isplitr; · iexact HR
    isplitl [Hrow]; · iexact Hrow
    isplitl [Hn]; · iexact Hn
    isplitl [HO]; · iexact HO
    isplitl [HtS] <;> iassumption
  iintro ⟨HcS, HO⟩
  unfold owed1
  iapply (wp_send_dir m K c _ false (dev4_eq c) 0 (insert (semOf barK, ()) W)) $$ [HO HtS' HtV' Hrow' Hp]
  · isplitr; · iexact HR
    isplitl [Hrow']; · iexact Hrow'
    isplitl [Hp]; · iexact Hp
    isplitl [HO]; · rw [zero_add]; iexact HO
    isplitl [HtS'] <;> iassumption
  iintro ⟨HcS', HO⟩
  -- the rows in the middle, while the copies fly
  unfold xHalf
  iapply (wp_load 𝒱₀ (c : Thread nD τ) none Set.univ (m := xM) (Finset.subset_univ _)) $$ Hx; iintro Hx
  rw [read_all]
  iapply (wp_load 𝒱₀ (c : Thread nD τ) none Set.univ (m := oM) (Finset.subset_univ _)) $$ Hout; iintro Hout
  iapply (wp_store 𝒱₀ (c : Thread nD τ) none Set.univ (m := oM) (r := midRect) (Mk := Finset.univ) (Finset.subset_univ _)) $$ Hout; iintro Hout
  -- the waits: row 511 sent, slot 0 filled, row 0 sent, slot 1 filled
  iapply (wp_wait_row m K c (true, false) (sndS true) rfl (row_credit true)) $$ [HO HcS HaS]
  · isplitr; · iexact HR
    isplitl [HcS]; · iexact HcS
    isplitl [HO] <;> iassumption
  iintro ⟨HO, HzS, Hrow⟩
  iapply (wp_wait_row m K c (true, true) (rcvS true) rfl (slot_credit true)) $$ [HO HcV HaV]
  · isplitr; · iexact HR
    isplitl [HcV]; · iexact HcV
    isplitl [HO] <;> iassumption
  iintro ⟨HO, HzV, Hs⟩
  iapply (wp_wait_row m K c (false, false) (sndS false) rfl (row_credit false)) $$ [HO HcS' HaS']
  · isplitr; · iexact HR
    isplitl [HcS']; · iexact HcS'
    isplitl [HO] <;> iassumption
  iintro ⟨HO, HzS', Hrow'⟩
  iapply (wp_wait_row m K c (false, true) (rcvS false) rfl (slot_credit false)) $$ [HO HcV' HaV']
  · isplitr; · iexact HR
    isplitl [HcV']; · iexact HcV'
    isplitl [HO] <;> iassumption
  iintro ⟨HO, HzV', Hs'⟩
  unfold payOf filled
  icases Hs with ⟨%h, %hh, Hs⟩
  icases Hs' with ⟨%h', %hh', Hs'⟩
  unfold slotPts
  -- the first row, then the last
  iapply (wp_load 𝒱₀ (c : Thread nD τ) none Set.univ (m := hM) (slot_load_sub true)) $$ Hs; iintro Hs
  iapply (wp_load 𝒱₀ (c : Thread nD τ) none Set.univ (m := oM) (Finset.subset_univ _)) $$ Hout; iintro Hout
  iapply (wp_store 𝒱₀ (c : Thread nD τ) none Set.univ (m := oM) (r := rowRect false) (Mk := Finset.univ) (Finset.subset_univ _)) $$ Hout; iintro Hout
  iapply (wp_load 𝒱₀ (c : Thread nD τ) none Set.univ (m := hM) (slot_load_sub false)) $$ Hs'; iintro Hs'
  iapply (wp_load 𝒱₀ (c : Thread nD τ) none Set.univ (m := oM) (Finset.subset_univ _)) $$ Hout; iintro Hout
  iapply (wp_store 𝒱₀ (c : Thread nD τ) none Set.univ (m := oM) (r := rowRect true) (Mk := Finset.univ) (Finset.subset_univ _)) $$ Hout; iintro Hout
  rw [wp_ret]; imodintro
  iapply Hk
  unfold bodyPost Φ₁ Dat.owesAt Pipeline.owesWithin copiesZero
  rw [show (dats m 0 c).owed t0_0.succ = 0 from rfl]
  isplitl [Hs Hs' HzB HzS HzS' HzV HzV']
  · isplitl [Hs Hs']
    · iapply (halo_join (F := F) c h h'); unfold slotPts
      isplitl [Hs] <;> iassumption
    isplitl [HzS HzS' HzV HzV']
    · isplitl [HzS]; · iexact HzS
      isplitl [HzS']; · iexact HzS'
      isplitl [HzV] <;> iassumption
    · iexact HzB
  isplitl [HO]
  · iexists (insert (semOf (rcvK false), ()) (insert (semOf (sndK false), ()) (insert (semOf (rcvK true), ()) (insert (semOf (sndK true), ()) (insert (semOf barK, ()) W)))))
    isplitr; · ipureintro; exact fun _ _ => Or.inl trivial
    iexact HO
  isplitl [Hx Hrow Hrow' Hrest]
  · iexists (xblk m c); isplitr; · (ipureintro; rfl)
    iapply ((x_split m c).2.trans (show xWhole m c ⊢ _ from (by unfold xWhole; exact BI.Entails.refl _)))
    unfold xHalf
    isplitl [Hx]; · iexact Hx
    isplitl [Hrow]; · iexact Hrow
    isplitl [Hrow'] <;> iassumption
  iexists _
  isplitr
  swap; · iexact Hout
  ipureintro
  unfold outAt k0_pay3
  rw [shapeCast_self]
  exact stores_eq c _ _ _ _ _ ((read_slot true h).trans hh) ((read_slot false h').trans hh') g1

/-- The body obligation of the launch. -/
theorem body_obligation (c : Dev nD) : BodyObligation (dats (F := F) m 0 c) (defs₀ (F := F)) 𝒱₀ () Set.univ := fun t => by
  rw [fin_point t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  iintro H
  iapply (sound_body m c fun _ => bodyPost m c)
  isplitl [H]; · iexact H
  iintro H; iexact H

end Cert.HaloProof

end
-- ==== Proof.Launch.lean ====
/-
# Dealing the cells out

At launch every device's five cells stand at zero. One global step turns them into shared
invariants and hands each device its own positions and the tokens of the duties IT pays, which sit
on its neighbours' cells: the token of a barrier unit or of a copy's landing moves one device along.
-/
module

public import proofs.«01_k».proof.Proof.Body

@[expose] public section

noncomputable section

namespace Cert.HaloProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The ghost state at launch -/

/-- The kernel's own copy semaphores: send and receive, in both directions. -/
abbrev ownSem : Fin 4 → SemLoc sig := fun
  | 0 => semOf (sndK true) | 1 => semOf (sndK false) | 2 => semOf (rcvK true) | 3 => semOf (rcvK false)
theorem ownSemFacts : Pipeline.OwnSemFacts cfg0.spec ownSem := by decide

theorem cell_injective : Function.Injective (fun ck : Dev nD × Cell => cellAt ck.1 ck.2) :=
  fun _ _ h => Prod.ext (cellAt_inj.mp h).1 (cellAt_inj.mp h).2
def allCells : Finset (GSem nD τ sig) := Finset.univ.map ⟨_, cell_injective⟩

/-- The duties of a device's cells: per direction, its barrier's, its receive cell's and its send cell's. -/
abbrev dutyOf (x : Dev nD × Bool × Fin 3) : GSem nD τ sig × ℕ × Bool := match x.2.2 with
  | 0 => (cellAt x.1 barK, 0, x.2.1) | 1 => (cellAt x.1 (rcvK x.2.1), 0, true) | 2 => (cellAt x.1 (sndK x.2.1), 0, true)

/-- The cell and name of such a duty, before the cell becomes a semaphore. -/
abbrev dutyKey (y : Bool × Fin 3) : Cell × Bool := match y.2 with
  | 0 => (barK, y.1) | 1 => (rcvK y.1, true) | 2 => (sndK y.1, true)
theorem dutyKey_injective : ∀ y z : Bool × Fin 3, dutyKey y = dutyKey z → y = z := by decide
theorem dutyOf_eq (c : Dev nD) (y : Bool × Fin 3) : dutyOf (c, y) = (cellAt c (dutyKey y).1, 0, (dutyKey y).2) := by
  obtain ⟨b, j⟩ := y; fin_cases j <;> rfl
theorem dutyOf_injective : Function.Injective dutyOf := by
  rintro ⟨c, y⟩ ⟨d, z⟩ h
  rw [dutyOf_eq, dutyOf_eq] at h
  obtain ⟨hc, hk⟩ := cellAt_inj.mp (congrArg Prod.fst h)
  have hb : (dutyKey y).2 = (dutyKey z).2 := congrArg (fun x : GSem nD τ sig × ℕ × Bool => x.2.2) h
  rw [hc, dutyKey_injective y z (Prod.ext hk hb)]
def allDuties : Finset (GSem nD τ sig × ℕ × Bool) := Finset.univ.map ⟨dutyOf, dutyOf_injective⟩

def u₀ : UU :=
  (initOf (Pipeline.cells cfgs cellOf_inj) (Pipeline.launchToks cfgs cellOf_inj), initOf allCells allDuties)

/-- The tokens of device `c`'s own cells in direction `b`. -/
def ownToks (c : Dev nD) (b : Bool) : sProp 𝕄 :=
  iprop(dutyTok ER (cellAt c barK) 0 b ∗ dutyTok ER (cellAt c (rcvK b)) 0 true ∗ dutyTok ER (cellAt c (sndK b)) 0 true)

/-- What the launch deals device `c`, -/
def G (c : Dev nD) : sProp 𝕄 :=
  iprop((bigSep Finset.univ fun k : Cell => roundState ER (sched m) (cellAt c k) 0)
    ∗ (bigSep Finset.univ fun k : Cell => iprop(atPos ER (cellAt c k) 0 ∅ 0 ∗ reached ER (cellAt c k) 0)) ∗ ownToks c true ∗ ownToks c false)
/-- and what the global step makes of it. -/
def G' (c : Dev nD) : sProp 𝕄 := iprop(∃ K, ghost m K c)

omit [FloatOps F] in
theorem ownToks_eq (c : Dev nD) : (bigSep Finset.univ fun y : Bool × Fin 3 => (dutyTok ER (dutyOf (c, y)).1 (dutyOf (c, y)).2.1 (dutyOf (c, y)).2.2 : sProp 𝕄))
    = iprop(ownToks c true ∗ ownToks c false) := by
  rw [bigSep_univ_prod, bigSep_univ_eq_bigSepL [true, false] (by decide) (by decide), bigSepL_cons_cons, bigSepL_singleton,
    bigSep_univ_eq_bigSepL [0, 1, 2] (by decide) (by decide), bigSep_univ_eq_bigSepL [0, 1, 2] (by decide) (by decide)]
  rfl

omit [FloatOps F] in
theorem fund_cells : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun k : Cell => Φ (cellAt c k) := by
    unfold allCells; rw [bigSep_map, bigSep_univ_prod]; rfl
  have hT : bigSep allDuties (fun x => (dutyTok ER x.1 x.2.1 x.2.2 : sProp 𝕄)) = bigSep Finset.univ fun c : Dev nD => iprop(ownToks c true ∗ ownToks c false) := by
    unfold allDuties; rw [bigSep_map, bigSep_univ_prod]
    exact bigSep_congr fun c _ => ownToks_eq c
  iintro HX
  imod (Rounds.fund ER (sched m) allCells allDuties) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans (Entails.of_eq (bigSep_sep' _ _ _))) $$ Htok
  unfold G; simp only [bigSep_sep']
  isplitl [Hst']; · iexact Hst'
  isplitl [Hat' Hr']
  · isplitl [Hat'] <;> iassumption
  iexact Htok'

/-! ## The counters -/

omit [FloatOps F] in
theorem ownSems_eq (c : Dev nD) : (Pipeline.ownSems0 (Ix := Unit) (Name := ℕ) (U := UU) (Lvl := ℕ) (Val := Elt F) (τ := τ) ownSem c : sProp 𝕄) = copiesZero c := by
  rw [Pipeline.ownSems0_eq_of_list c ownSem [0, 1, 2, 3] (by decide) (by decide)]; rfl
omit [FloatOps F] in
/-- The barrier's is the one counter the launch does not scope to the kernel. -/
theorem barrier_eq (c : Dev nD) : (unscopedSems0 c : sProp 𝕄) = semVal (cellAt c barK) 0 := by
  unfold unscopedSems0; rw [bigSep_eq_bigSepL_of_eq [SemLoc.reg barS] (by decide) (by decide)]; rfl

omit [FloatOps F] in
theorem counters (c : Dev nD) :
    iprop(Pipeline.ownSems0 (Ix := Unit) (Name := ℕ) (U := UU) (Lvl := ℕ) (Val := Elt F) (τ := τ) ownSem c ∗ unscopedSems0 c)
      ⊢ (bigSep Finset.univ fun k : Cell => semVal (cellAt c k) 0 : sProp 𝕄) := by
  rw [ownSems_eq, barrier_eq, bigSep_univ_eq_bigSepL [barK, sndK true, sndK false, rcvK true, rcvK false] (by decide) (by decide)]
  unfold copiesZero
  show _ ⊢ iprop(semVal (cellAt c barK) 0 ∗ semVal (cellAt c (sndK true)) 0 ∗ semVal (cellAt c (sndK false)) 0 ∗ semVal (cellAt c (rcvK true)) 0 ∗ semVal (cellAt c (rcvK false)) 0)
  iintro ⟨H, HB⟩
  isplitl [HB]; · iexact HB
  iexact H

omit [FloatOps F] in
/-- Device `c`'s cells become invariants. -/
theorem core_alloc (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun k : Cell => iprop(∃ κ : ℕ, cellInv ER (sched m) κ (cellAt c k)))
          ∗ (bigSep Finset.univ fun k : Cell => iprop(atPos ER (cellAt c k) 0 ∅ 0 ∗ reached ER (cellAt c k) 0)) ∗ ownToks c true ∗ ownToks c false) := by
  unfold G
  iintro ⟨Hos, Hus, Hst, Hat, Htok⟩
  ihave Hv := (counters (F := F) c) $$ [Hos Hus]
  · isplitl [Hos] <;> iassumption
  imod (show iprop((bigSep Finset.univ fun k : Cell => semVal (cellAt c k) 0) ∗ bigSep Finset.univ fun k : Cell => roundState ER (sched m) (cellAt c k) 0)
      ⊢ (|={Set.univ}=> bigSep Finset.univ fun k : Cell => iprop(∃ κ : ℕ, cellInv ER (sched m) κ (cellAt c k)) : sProp 𝕄) from by
        rw [← bigSep_sep']
        exact (bigSep_mono fun k _ => (Rounds.body_intro ER (sched m) (cellAt c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Handing the tokens round -/

omit [FloatOps F] in
/-- The tokens of the cells' owners are the tokens of the duties' payers. -/
theorem toks_around : (bigSep Finset.univ fun c : Dev nD => (iprop(ownToks c true ∗ ownToks c false) : sProp 𝕄))
    ⊢ bigSep Finset.univ fun c : Dev nD => iprop(payToks c true ∗ payToks c false) := by
  unfold ownToks payToks
  simp only [bigSep_sep']
  rw [bigSep_univ_equiv (step false) (fun c : Dev nD => (dutyTok ER (cellAt c barK) 0 true : sProp 𝕄)),
    bigSep_univ_equiv (step true) (fun c : Dev nD => (dutyTok ER (cellAt c barK) 0 false : sProp 𝕄)),
    bigSep_univ_equiv (step true) (fun c : Dev nD => (dutyTok ER (cellAt c (rcvK true)) 0 true : sProp 𝕄)),
    bigSep_univ_equiv (step false) (fun c : Dev nD => (dutyTok ER (cellAt c (rcvK false)) 0 true : sProp 𝕄))]
  iintro ⟨⟨HB, HV, HS⟩, HB', HV', HS'⟩
  isplitl [HB' HV HS]
  · isplitl [HB']; · iexact HB'
    isplitl [HV]; · iexact HV
    iexact HS
  · isplitl [HB]; · iexact HB
    isplitl [HV']; · iexact HV'
    iexact HS'

omit [FloatOps F] in
theorem ghost_intro (K : Dev nD × Cell → ℕ) (c : Dev nD) : iprop(records m K ∗ places c ∗ payToks c true ∗ payToks c false) ⊢ G' m c := by
  unfold G' ghost
  iintro H
  iexists K; iexact H

omit [FloatOps F] in
/-- What every device may use, each device gets. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : Cell => iprop(∃ κ : ℕ, cellInv ER (sched m) κ (cellAt c k)))
          ∗ (bigSep Finset.univ fun k : Cell => iprop(atPos ER (cellAt c k) 0 ∅ 0 ∗ reached ER (cellAt c k) 0)) ∗ ownToks c true ∗ ownToks c false) : sProp 𝕄)
      ⊢ bigSep Finset.univ (G' m) := by
  rw [bigSep_sep', bigSep_sep', ← bigSep_univ_prod (fun ck : Dev nD × Cell => iprop(∃ κ : ℕ, cellInv ER (sched m) κ (cellAt ck.1 ck.2))),
    bigSep_congr (s := Finset.univ) (fun (c : Dev nD) _ => bigSep_sep' Finset.univ (fun k : Cell => (atPos ER (cellAt c k) 0 ∅ 0 : sProp 𝕄)) (fun k => reached ER (cellAt c k) 0)),
    bigSep_sep', ← bigSep_univ_prod (fun ck : Dev nD × Cell => (reached ER (cellAt ck.1 ck.2) 0 : sProp 𝕄))]
  iintro ⟨HI, ⟨Hat, #HR⟩, Htok⟩
  ihave HK := (BI.bigSep_exists_pi Finset.univ (fun (ck : Dev nD × Cell) (κ : ℕ) => (cellInv ER (sched m) κ (cellAt ck.1 ck.2) : sProp 𝕄))) $$ HI
  icases HK with ⟨%K, #HI⟩
  ihave Htk := (toks_around (F := F)) $$ Htok
  iapply (bigSep_share (R := records m K) fun c _ => ghost_intro m K c)
  isplitr
  · unfold records; isplitl; · iexact HI
    iexact HR
  · iapply (Entails.of_eq (bigSep_sep' Finset.univ (fun c : Dev nD => (places c : sProp 𝕄)) (fun c => iprop(payToks c true ∗ payToks c false))).symm)
    unfold places
    isplitl [Hat]; · iexact Hat
    iexact Htk

omit [FloatOps F] in
/-- The global step, over every device's counters at once. -/
theorem glob : (bigSep Finset.univ fun c => iprop(Pipeline.ownSems0 (Ix := Unit) (Name := ℕ) (U := UU) (Lvl := ℕ) (Val := Elt F) (τ := τ) ownSem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- One of the things device `a` owes, seen from cell `k` of device `c`. -/
theorem owed_one (a c : Dev nD) (e : Bool) (j k : Cell) (n : ℕ) :
    tallyAt (nD := nD) (τ := τ) (sig := sig) (cellAt (toward e a) j) () n (cellAt c k) () = if a = toward (!e) c then (if k = j then n else 0) else 0 := by
  rw [tallyAt_apply]
  by_cases ha : a = toward (!e) c
  · subst ha
    rw [toward_of_not, if_pos rfl]
    by_cases hk : k = j
    · rw [if_pos hk, hk, if_pos ⟨rfl, rfl⟩]
    · rw [if_neg hk, if_neg fun h => hk (cellAt_inj.mp h.1).2]
  · rw [if_neg ha, if_neg fun h => ha ((eq_toward_iff e c a).mp (cellAt_inj.mp h.1).1)]

/-- All that is owed to cell `k` of device `c`. -/
def dueAt (k : Cell) : ℕ :=
  (if k = rcvK false then N else 0) + (if k = rcvK true then N else 0) + (if k = barK then 1 else 0) + (if k = barK then 1 else 0)

theorem owed_sum (c : Dev nD) (k : Cell) : (∑ a : Dev nD, owed4 a (cellAt c k) ()) = dueAt k := by
  have h : ∀ a : Dev nD, owed4 a (cellAt c k) () =
      (if a = toward (!false) c then (if k = rcvK false then N else 0) else 0) + (if a = toward (!true) c then (if k = rcvK true then N else 0) else 0)
        + (if a = toward (!true) c then (if k = barK then 1 else 0) else 0) + (if a = toward (!false) c then (if k = barK then 1 else 0) else 0) := by
    intro a
    unfold owed4 owed3 owed2 owed1
    simp only [Pi.add_apply, Finsupp.add_apply]
    rw [owed_one, owed_one, owed_one, owed_one]
  rw [Finset.sum_congr rfl fun a _ => h a, Finset.sum_add_distrib, Finset.sum_add_distrib, Finset.sum_add_distrib]
  simp only [Finset.sum_ite_eq', Finset.mem_univ, if_true]
  rfl

theorem launch_credit (c : Dev nD) (k : Cell) :
    tallyOn (cellAt c k) (launchCredit (Pipeline.owing owed4) 0 (cellAt c k)) = (tallyAt (cellAt c k) () (dueAt k) : CellTallies nD τ sig Unit) := by
  unfold tallyAt; refine congrArg _ (Finsupp.ext fun u => ?_); cases u
  rw [Pipeline.launchCredit_owing, Finsupp.single_eq_same]
  exact owed_sum c k

theorem due_bar : dueAt barK = 2 := by unfold dueAt; rw [if_neg (by decide), if_neg (by decide), if_pos rfl]
theorem due_rcv (d : Bool) : dueAt (rcvK d) = N := by
  unfold dueAt
  cases d
  · rw [if_pos rfl, if_neg (by decide), if_neg (by decide)]; rfl
  · rw [if_neg (by decide), if_pos rfl, if_neg (by decide), Nat.zero_add]; rfl

omit [FloatOps F] in
theorem creds (c : Dev nD) : (Pipeline.launchCred owed4 c : sProp 𝕄)
    ⊢ iprop(cred (tallyAt (cellAt c barK) () 2) ∗ cred (tallyAt (cellAt c (rcvK true)) () N) ∗ cred (tallyAt (cellAt c (rcvK false)) () N)) := by
  unfold Pipeline.launchCred
  refine (BI.bigSep_subset (Finset.subset_univ ([semOf barK, semOf (rcvK true), semOf (rcvK false)].toFinset))).trans ?_
  rw [bigSep_eq_bigSepL_of_eq [semOf barK, semOf (rcvK true), semOf (rcvK false)] rfl (by decide), bigSepL_cons_cons, bigSepL_cons_cons, bigSepL_singleton]
  rw [launch_credit c barK, launch_credit c (rcvK true), launch_credit c (rcvK false), due_bar, due_rcv, due_rcv]
  exact BI.Entails.refl _

end Cert.HaloProof

end
-- ==== Proof.Run.lean ====
/-
# The run of the kernel

The launch theorem's side conditions, and the run on all eight devices: every weakly fair execution
terminates, with every array at the computed contents and every counter at zero.
-/
module

public import proofs.«01_k».proof.Proof.Launch
public import Idealize.ShloMosaic.Lib.Quiescent
public import Idealize.ShloMosaic.Lib.Pipeline.CollectiveSegs

@[expose] public section

noncomputable section

namespace Cert.HaloProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
abbrev s₀ : MemSt nD τ sig (Elt F) := ⟨m, fun _ => 0, ρ⟩

theorem share_eq (c : Dev nD) (w : Fin cfg0.W) : (dats m 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed4 c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, HT, HF⟩
  imodintro
  unfold start G' credit
  isplitl
  · isplitl [HG]; · iexact HG
    isplitl [HB]; · iexact HB
    isplitl [HT]; · iexact HT
    isplitl [HF]; · iexact HF
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ haloPts
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = Φ₁ c from rfl, scopedRest0_eq, ownSems_eq, barrier_eq]
  unfold Φ₁ haloPts
  iintro ⟨Hr, Hz, HB⟩
  isplitl [HB]; · iexact HB
  isplitl [Hz]; · iexact Hz
  iexact Hr

/-- Waiting for a staging copy is below everything a device ever owes. -/
theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> decide) _ (by
      rcases t with ⟨_ | _, ht⟩
      · exact above_owed4 c
      · intro g u h; exact absurd h (Nat.lt_irrefl _))

/-- The contents of an array after the run, as the library computes them. -/
def finalA (c : Dev nD) (w : Fin cfg0.W) : Buf (Elt F) ((cfg0.win w).arr.view.loc (c : Thread nD τ)) := (dats m 0 c).arrAt w cfg0.N

set_option maxRecDepth 8000 in
/-- For any float values, from any memory with zero counters, every weakly fair execution on the eight devices
    terminates, each array at the computed contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed4) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is never written. -/
theorem finalA_in (c : Dev nD) : finalA m c (0 : Fin 2) = m ((c : Thread nD τ).loc main_arg0) :=
  (dats (F := F) m 0 c).arrAt_in (0 : Fin 2) rfl _

/-- The argument's one block is the whole array. -/
theorem xblk_eq (c : Dev nD) : xblk m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result's array ends holding what the body stored. -/
theorem finalA_out (c : Dev nD) : finalA m c (1 : Fin 2) = outAt m c := by
  have hz : (fun a => (win0_1.index (0 : Fin 1)) a * main_v1.ty.shape.size a) = fun _ => 0 :=
    funext fun a => by fin_cases a <;> decide
  refine (Memref.read_access_unit_zero (Elt F) main_v1 hz (fun a => by fin_cases a <;> decide) _).symm.trans ?_
  show (win0_1.blk (0 : Fin 1)).view.read (Elt F) (finalA m c (1 : Fin 2)) = outAt m c
  unfold finalA
  rw [show cfg0.N = ((0 : Fin 1) : Fin cfg0.N).val + 1 from rfl, (dats m 0 c).arrAt_succ (1 : Fin 2) (0 : Fin 1),
    show (cfg0.win (1 : Fin 2)).flush (0 : Fin 1) = true from by decide, if_pos rfl]
  exact View.read_write_univ _ _

/-- The run, read at the argument and the result. -/
theorem run_values : θ_run defs (onTc (τ := τ) (main (F := F))) (s₀ m ρ) (fun r =>
    (∀ c : Dev nD, r.2.mem ((c : Thread nD τ).loc main_v1) = outBlk c (m ((toward false c : Thread nD τ).loc main_arg0)) (m ((c : Thread nD τ).loc main_arg0)) (m ((toward true c : Thread nD τ).loc main_arg0))
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans ((finalA_out m c).trans (by
    unfold outAt; rw [xblk_eq, xblk_eq, xblk_eq])), (h.1 c (0 : Fin 2)).trans (finalA_in m c)⟩, h.2⟩) (run_main m ρ)

end Cert.HaloProof

end
-- ==== Proof.Ref.lean ====
/-
# What the reference computes

The reference smooths the whole array of 4096 rows on one device: it slices the array at three
offsets, adds the three with weights a quarter, a half and a quarter, and puts the first and the last
row of the array back unchanged. Here its run, and its result row by row.
-/
module

public import proofs.«01_k».proof.Proof.Output
public import proofs.«01_k».proof.Proof.Gen.ReferenceIdeal
public import Idealize.ShloMosaic.Lib.StableHlo.Run

@[expose] public section

noncomputable section

namespace Cert.HaloProof.Ref

open Cert.ReferenceIdeal Cert.ReferenceIdeal.Gen
open Idealize.ShloMosaic Idealize.ShloMosaic.TcCoe Idealize.ShloMosaic.StableHlo Idealize.SL.Sem

variable {F : FTy → Type} [FloatOps F]

/-- The smoothed middle rows: three slices of the array, weighted and added. -/
def middle (x : FVec F S4096x512 .f32) : FVec F S4094x512 .f32 :=
  addf (addf (mulf (broadcastInDim S4094x512 ![] bcast_S_S4094x512 (constant S_ .f32 0x3E800000#32)) (extractStridedSlice S4094x512 ![0, 0] x slices_S4096x512_S4094x512_0_0))
      (mulf (broadcastInDim S4094x512 ![] bcast_S_S4094x512 (constant S_ .f32 0x3F000000#32)) (extractStridedSlice S4094x512 ![1, 0] x slices_S4096x512_S4094x512_1_0)))
    (mulf (broadcastInDim S4094x512 ![] bcast_S_S4094x512 (constant S_ .f32 0x3E800000#32)) (extractStridedSlice S4094x512 ![2, 0] x slices_S4096x512_S4094x512_2_0))

/-- What the result is put together from: the array's first row, the middle, the array's last row. -/
abbrev pieces (x : FVec F S4096x512 .f32) : List ((s : Shape) × (s.Idx → F .f32)) :=
  [⟨S1x512, extractStridedSlice S1x512 ![0, 0] x slices_S4096x512_S1x512_0_0⟩, ⟨S4094x512, middle x⟩,
    ⟨S1x512, extractStridedSlice S1x512 ![4095, 0] x slices_S4096x512_S1x512_4095_0⟩]
theorem piece_lt (x : FVec F S4096x512 .f32) (k : Fin 3) : k.val < (pieces x).length := k.isLt
/-- The result. -/
def refOut (x : FVec F S4096x512 .f32) : FVec F S4096x512 .f32 :=
  concatenate S4096x512 0 (pieces x) concatenates_S1x512_S4094x512_S1x512_S4096x512_d0

/-! ## The run -/

/-- The reference's operations, in order. -/
abbrev ops : List (HloOp τ sig (Elt F)) :=
  [ unary main_arg0 main_v0 ((extractStridedSlice S4094x512 ![0, 0] · slices_S4096x512_S4094x512_0_0) : (⟨S4096x512, .f32⟩ : BufTy).Contents (Elt F) → (⟨S4094x512, .f32⟩ : BufTy).Contents (Elt F)),
    nullary main_cst (constant S_ .f32 0x3E800000#32),
    unary main_cst main_v1 (broadcastInDim S4094x512 ![] bcast_S_S4094x512 : (⟨S_, .f32⟩ : BufTy).Contents (Elt F) → (⟨S4094x512, .f32⟩ : BufTy).Contents (Elt F)),
    binary main_v1 main_v0 main_v2 (mulf : (⟨S4094x512, .f32⟩ : BufTy).Contents (Elt F) → (⟨S4094x512, .f32⟩ : BufTy).Contents (Elt F) → (⟨S4094x512, .f32⟩ : BufTy).Contents (Elt F)),
    unary main_arg0 main_v3 ((extractStridedSlice S4094x512 ![1, 0] · slices_S4096x512_S4094x512_1_0) : (⟨S4096x512, .f32⟩ : BufTy).Contents (Elt F) → (⟨S4094x512, .f32⟩ : BufTy).Contents (Elt F)),
    nullary main_cst_0 (constant S_ .f32 0x3F000000#32),
    unary main_cst_0 main_v4 (broadcastInDim S4094x512 ![] bcast_S_S4094x512 : (⟨S_, .f32⟩ : BufTy).Contents (Elt F) → (⟨S4094x512, .f32⟩ : BufTy).Contents (Elt F)),
    binary main_v4 main_v3 main_v5 (mulf : (⟨S4094x512, .f32⟩ : BufTy).Contents (Elt F) → (⟨S4094x512, .f32⟩ : BufTy).Contents (Elt F) → (⟨S4094x512, .f32⟩ : BufTy).Contents (Elt F)),
    binary main_v2 main_v5 main_v6 (addf : (⟨S4094x512, .f32⟩ : BufTy).Contents (Elt F) → (⟨S4094x512, .f32⟩ : BufTy).Contents (Elt F) → (⟨S4094x512, .f32⟩ : BufTy).Contents (Elt F)),
    unary main_arg0 main_v7 ((extractStridedSlice S4094x512 ![2, 0] · slices_S4096x512_S4094x512_2_0) : (⟨S4096x512, .f32⟩ : BufTy).Contents (Elt F) → (⟨S4094x512, .f32⟩ : BufTy).Contents (Elt F)),
    nullary main_cst_1 (constant S_ .f32 0x3E800000#32),
    unary main_cst_1 main_v8 (broadcastInDim S4094x512 ![] bcast_S_S4094x512 : (⟨S_, .f32⟩ : BufTy).Contents (Elt F) → (⟨S4094x512, .f32⟩ : BufTy).Contents (Elt F)),
    binary main_v8 main_v7 main_v9 (mulf : (⟨S4094x512, .f32⟩ : BufTy).Contents (Elt F) → (⟨S4094x512, .f32⟩ : BufTy).Contents (Elt F) → (⟨S4094x512, .f32⟩ : BufTy).Contents (Elt F)),
    binary main_v6 main_v9 main_v10 (addf : (⟨S4094x512, .f32⟩ : BufTy).Contents (Elt F) → (⟨S4094x512, .f32⟩ : BufTy).Contents (Elt F) → (⟨S4094x512, .f32⟩ : BufTy).Contents (Elt F)),
    unary main_arg0 main_v11 ((extractStridedSlice S1x512 ![0, 0] · slices_S4096x512_S1x512_0_0) : (⟨S4096x512, .f32⟩ : BufTy).Contents (Elt F) → (⟨S1x512, .f32⟩ : BufTy).Contents (Elt F)),
    unary main_arg0 main_v12 ((extractStridedSlice S1x512 ![4095, 0] · slices_S4096x512_S1x512_4095_0) : (⟨S4096x512, .f32⟩ : BufTy).Contents (Elt F) → (⟨S1x512, .f32⟩ : BufTy).Contents (Elt F)),
    nary ![main_v11, main_v10, main_v12] main_v13 (fun u => (concatenate S4096x512 0 [⟨S1x512, (u 0 : (⟨S1x512, .f32⟩ : BufTy).Contents (Elt F))⟩, ⟨S4094x512, (u 1 : (⟨S4094x512, .f32⟩ : BufTy).Contents (Elt F))⟩, ⟨S1x512, (u 2 : (⟨S1x512, .f32⟩ : BufTy).Contents (Elt F))⟩] concatenates_S1x512_S4094x512_S1x512_S4096x512_d0 : (⟨S4096x512, .f32⟩ : BufTy).Contents (Elt F))) ]

theorem main_eq (c : Dev nD) : main (F := F) c = seq ops := rfl

theorem out_eq (V : Valuation τ sig (Elt F)) : after ops V (main_v13 : DevRef τ sig) = refOut (V (main_arg0 : DevRef τ sig)) := by
  after_results
  rfl
theorem arg_eq (V : Valuation τ sig (Elt F)) : after ops V (main_arg0 : DevRef τ sig) = V (main_arg0 : DevRef τ sig) := by
  after_results

theorem scoped_refs : (Finset.univ.filter fun b : Ref sig .tc => b.isScoped) = ∅ := by decide
theorem scoped_sems : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., binary_bufs_sub ..,
    binary_bufs_sub .., unary_bufs_sub .., nullary_bufs_sub .., unary_bufs_sub .., binary_bufs_sub .., binary_bufs_sub .., unary_bufs_sub .., unary_bufs_sub .., nary_bufs_sub ..⟩

/-- The reference terminates with `refOut` of its argument, and the argument as it was. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v13) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v13).trans (out_eq _), (h c main_arg0).trans (arg_eq _)⟩)
    (run_seq scoped_refs scoped_sems defs main (fun _ => ops) main_eq (fun _ => ops_sub) m ρ)

/-! ## The result row by row -/

/-- A middle row is the mean of the row and its neighbours. -/
theorem middle_apply (x : FVec F S4096x512 .f32) (i : S4094x512.Idx) (a b e : S4096x512.Idx)
    (ha : (a 0).val = (i 0).val ∧ (a 1).val = (i 1).val) (hb : (b 0).val = (i 0).val + 1 ∧ (b 1).val = (i 1).val)
    (he : (e 0).val = (i 0).val + 2 ∧ (e 1).val = (i 1).val) : middle x i = mix (x a) (x b) (x e) := by
  have h (off : Fin 2 → ℕ) (hs : S4096x512.Slices off S4094x512) (k : S4096x512.Idx) (h0 : (k 0).val = off 0 + (i 0).val) (h1 : (k 1).val = off 1 + (i 1).val) :
      extractStridedSlice S4094x512 off x hs i = x k :=
    extractStridedSlice_apply off x hs i k fun j => by match j with | ⟨0, _⟩ => exact h0 | ⟨1, _⟩ => exact h1
  show mix (extractStridedSlice S4094x512 ![0, 0] x _ i) (extractStridedSlice S4094x512 ![1, 0] x _ i) (extractStridedSlice S4094x512 ![2, 0] x _ i) = _
  rw [h ![0, 0] _ a (by rw [ha.1]; exact (Nat.zero_add _).symm) (by rw [ha.2]; exact (Nat.zero_add _).symm),
    h ![1, 0] _ b (by rw [hb.1]; exact Nat.add_comm _ _) (by rw [hb.2]; exact (Nat.zero_add _).symm),
    h ![2, 0] _ e (by rw [he.1]; exact Nat.add_comm _ _) (by rw [he.2]; exact (Nat.zero_add _).symm)]

/-- The first row and the last are the array's own. -/
theorem refOut_first (x : FVec F S4096x512 .f32) (j : S4096x512.Idx) (hj : (j 0).val = 0) : refOut x j = x j := by
  refine (concatenate_apply_piece (0 : Fin 2) (pieces x) _ j 0 (piece_lt x 0) S1x512 _ rfl rfl 0 rfl (Shape.pair (d := ![1, 512]) ⟨0, Nat.one_pos⟩ (j 1)) (fun b hb => ?_) ?_).trans ?_
  · match b with
    | ⟨0, _⟩ => exact absurd rfl hb
    | ⟨1, _⟩ => rfl
  · exact hj.symm
  · exact extractStridedSlice_apply _ x _ _ j fun k => by
      match k with
      | ⟨0, _⟩ => exact hj
      | ⟨1, _⟩ => exact (Nat.zero_add _).symm
theorem refOut_last (x : FVec F S4096x512 .f32) (j : S4096x512.Idx) (hj : (j 0).val = 4095) : refOut x j = x j := by
  refine (concatenate_apply_piece (0 : Fin 2) (pieces x) _ j 2 (piece_lt x 2) S1x512 _ rfl rfl 4095 rfl (Shape.pair (d := ![1, 512]) ⟨0, Nat.one_pos⟩ (j 1)) (fun b hb => ?_) ?_).trans ?_
  · match b with
    | ⟨0, _⟩ => exact absurd rfl hb
    | ⟨1, _⟩ => rfl
  · exact hj.symm
  · exact extractStridedSlice_apply _ x _ _ j fun k => by
      match k with
      | ⟨0, _⟩ => exact hj
      | ⟨1, _⟩ => exact (Nat.zero_add _).symm

/-- Every other row is the mean of the array's row and its neighbours. -/
theorem refOut_inner (x : FVec F S4096x512 .f32) (j a e : S4096x512.Idx) (h0 : (j 0).val ≠ 0) (h1 : (j 0).val ≠ 4095)
    (ha : (a 0).val + 1 = (j 0).val ∧ (a 1).val = (j 1).val) (he : (e 0).val = (j 0).val + 1 ∧ (e 1).val = (j 1).val) :
    refOut x j = mix (x a) (x j) (x e) := by
  have hlt : (j 0).val < 4096 := (j 0).isLt
  have hp : (j 0).val - 1 < 4094 := by omega
  refine (concatenate_apply_piece (0 : Fin 2) (pieces x) _ j 1 (piece_lt x 1) S4094x512 _ rfl rfl 1 rfl (Shape.pair (d := ![4094, 512]) ⟨(j 0).val - 1, hp⟩ (j 1)) (fun b hb => ?_) ?_).trans ?_
  · match b with
    | ⟨0, _⟩ => exact absurd rfl hb
    | ⟨1, _⟩ => rfl
  · show 1 + ((j 0).val - 1) = (j 0).val
    omega
  · refine middle_apply x _ a j e ⟨?_, ha.2⟩ ⟨?_, rfl⟩ ⟨?_, he.2⟩
    · show _ = (j 0).val - 1
      omega
    · show _ = (j 0).val - 1 + 1
      omega
    · show _ = (j 0).val - 1 + 2
      omega

end Cert.HaloProof.Ref

end
-- ==== Proof.Bridge.lean ====
/-
# The equation

The reference's result cut into eight blocks of 512 rows is, block by block, what the devices
compute from their own block and the two neighbouring ones.
-/
module

public import proofs.«01_k».proof.Proof.Ref
public import Idealize.ShloMosaic.Lib.Layout

@[expose] public section

noncomputable section

namespace Cert.HaloProof

open Cert.KernelIdeal Cert.KernelIdeal.Gen
open Idealize.ShloMosaic Idealize.ShloMosaic.TcCoe

variable {F : FTy → Type} [FloatOps F]

/-- The neighbour below is one block further, round the eight; the neighbour above one block back. -/
theorem toward_true_val (c : Dev nD) : (toward true c).val = (c.val + 1) % 8 := by
  revert c; decide
theorem toward_false_val (c : Dev nD) : (toward false c).val = (c.val + 7) % 8 := by
  revert c; decide

abbrev Whole : Shape := ⟨2, ![4096, 512]⟩
abbrev Part : Shape := ⟨2, ![512, 512]⟩

/-- Where place `i` of block `c` is in the whole array. -/
theorem place_row (hT : Layout.Tiles Part Whole 0 8) (c : Dev nD) (i : Part.Idx) : (hT.idx c i 0).val = c.val * 512 + (i 0).val := rfl
theorem place_col (hT : Layout.Tiles Part Whole 0 8) (c : Dev nD) (i : Part.Idx) : (hT.idx c i 1).val = (i 1).val := rfl

/-- Block `c` of the reference's result is what device `c` computes. -/
theorem block_refOut (hT : Layout.Tiles Part Whole 0 8) (x : FVec F Whole .f32) (c : Dev nD) :
    Layout.block Part Whole 0 8 c (Ref.refOut x) hT
      = outBlk c (Layout.block Part Whole 0 8 (toward false c) x hT) (Layout.block Part Whole 0 8 c x hT) (Layout.block Part Whole 0 8 (toward true c) x hT) := by
  funext i
  have hr : (i 0).val < 512 := (i 0).isLt
  have hc : c.val < 8 := c.isLt
  have hj : (hT.idx c i 0).val = c.val * 512 + (i 0).val := rfl
  rw [Layout.block_apply]
  unfold outBlk
  by_cases hedge : (c.val = 0 ∧ (i (0 : Fin 2)).val = 0) ∨ (c.val = 7 ∧ (i (0 : Fin 2)).val = 511)
  · rw [if_pos hedge, Layout.block_apply]
    rcases hedge with ⟨h1, h2⟩ | ⟨h1, h2⟩
    · exact Ref.refOut_first x _ (by rw [hj]; omega)
    · exact Ref.refOut_last x _ (by rw [hj]; omega)
  · rw [if_neg hedge]
    have hup : ∃ a : Whole.Idx, ((a 0).val + 1 = (hT.idx c i 0).val ∧ (a 1).val = (hT.idx c i 1).val)
        ∧ (if (i (0 : Fin 2)).val = 0 then Layout.block Part Whole 0 8 (toward false c) x hT (shiftRow 511 i) else Layout.block Part Whole 0 8 c x hT (shiftRow 511 i)) = x a := by
      by_cases h0 : (i (0 : Fin 2)).val = 0
      · refine ⟨hT.idx (toward false c) (shiftRow 511 i), ⟨?_, by rw [place_col, place_col, shiftRow_val1]⟩, if_pos h0⟩
        rw [place_row, place_row, toward_false_val, shiftRow_val0]; omega
      · refine ⟨hT.idx c (shiftRow 511 i), ⟨?_, by rw [place_col, place_col, shiftRow_val1]⟩, if_neg h0⟩
        rw [place_row, place_row, shiftRow_val0]; omega
    have hdown : ∃ e : Whole.Idx, ((e 0).val = (hT.idx c i 0).val + 1 ∧ (e 1).val = (hT.idx c i 1).val)
        ∧ (if (i (0 : Fin 2)).val = 511 then Layout.block Part Whole 0 8 (toward true c) x hT (shiftRow 1 i) else Layout.block Part Whole 0 8 c x hT (shiftRow 1 i)) = x e := by
      by_cases h0 : (i (0 : Fin 2)).val = 511
      · refine ⟨hT.idx (toward true c) (shiftRow 1 i), ⟨?_, by rw [place_col, place_col, shiftRow_val1]⟩, if_pos h0⟩
        rw [place_row, place_row, toward_true_val, shiftRow_val0]; omega
      · refine ⟨hT.idx c (shiftRow 1 i), ⟨?_, by rw [place_col, place_col, shiftRow_val1]⟩, if_neg h0⟩
        rw [place_row, place_row, shiftRow_val0]; omega
    obtain ⟨a, ha, hax⟩ := hup
    obtain ⟨e, he, hex⟩ := hdown
    rw [hax, hex]
    exact Ref.refOut_inner x _ a e (by rw [hj]; omega) (by rw [hj]; omega) ha he

end Cert.HaloProof

end
-- ==== Proof.lean ====
/-
# The claims

The run of the kernel and the run of the reference, each proved once for any float values, read at
the two instances; the equation of Bridge.lean joins them.
-/
module

public import proofs.«01_k».proof.Defs
public import proofs.«01_k».proof.Proof.Run
public import proofs.«01_k».proof.Proof.Bridge
public import proofs.«01_k».proof.Proof.Gen.Kernel
public import proofs.«01_k».proof.Proof.Gen.Reference

@[expose] public section

noncomputable section

namespace Cert.Proof

open Idealize.ShloMosaic Idealize.ShloMosaic.TcCoe Idealize.SL.Sem Cert.HaloProof

/-! The two printed texts of the kernel are one text, so a run of the one is a run of the other. -/

theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))
theorem defs_same {F : FTy → Type} [FloatOps F] : Cert.Kernel.defs (F := F) = Cert.KernelIdeal.defs (F := F) :=
  congrArg (Pipeline.defs Cert.KernelIdeal.pcfgs) bodies_same

/-- The kernel leaves its argument and the counters as they were, -/
theorem frame_kernel : Cert.quiescent_Kernel := fun m ρ _ => by
  rw [defs_same]
  exact (θ_run Cert.KernelIdeal.defs _ _).mono (fun _ h => ⟨fun c => (h.1 c).2, h.2⟩) (run_values (F := Bits) m ρ)
theorem frame_kernelIdeal : Cert.quiescent_KernelIdeal := fun m ρ _ =>
  (θ_run Cert.KernelIdeal.defs _ _).mono (fun _ h => ⟨fun c => (h.1 c).2, h.2⟩) (run_values (F := Ideal) m ρ)
/-- and so does the reference, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Ref.run_ref (F := Ideal) m ρ)
theorem frame_reference : Cert.quiescent_Reference := fun m ρ _ =>
  (θ_run Cert.ReferenceIdeal.defs _ _).mono (fun r h => ⟨fun c => (h c).2, sem_eq_zero_of_no_sems (by decide) r.2⟩) (Ref.run_ref (F := Bits) m ρ)

/-- On blocks of one array, the devices end holding the blocks of the reference's result, whatever the float values. -/
theorem kernel_value {F : FTy → Type} [FloatOps F]
    (m : (ℓ : Loc Cert.KernelIdeal.nD Cert.KernelIdeal.τ Cert.KernelIdeal.sig) → Buf (Elt F) ℓ) (ρ : Dev Cert.KernelIdeal.nD → PrngReg)
    (x : FVec F Whole .f32) (hT : Layout.Tiles Part Whole 0 8)
    (hx : ∀ c : Dev Cert.KernelIdeal.nD, m ((c.tc : Thread Cert.KernelIdeal.nD Cert.KernelIdeal.τ).loc Cert.KernelIdeal.main_arg0) = Layout.block Part Whole 0 8 c x hT) :
    θ_run Cert.KernelIdeal.defs (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v1) = Layout.block Part Whole 0 8 c (Ref.refOut x) hT
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun _ h c => ⟨(h.1 c).1.trans (by
    rw [block_refOut, ← hx c, ← hx (toward false c), ← hx (toward true c)]), (h.1 c).2⟩) (run_values m ρ)

/-- Over the extended reals the kernel computes the reference's result, -/
theorem algebraic : Cert.algebraic_KernelIdeal_ReferenceIdeal := fun m ρ m' ρ' _ hx =>
  ⟨Ref.refOut (F := Ideal) (m' (((0 : Dev Cert.ReferenceIdeal.nD).tc : Thread Cert.ReferenceIdeal.nD Cert.ReferenceIdeal.τ).loc Cert.ReferenceIdeal.main_arg0)),
    kernel_value (F := Ideal) m ρ _ _ hx, (θ_run Cert.ReferenceIdeal.defs _ _).mono (fun _ h => h 0) (Ref.run_ref (F := Ideal) m' ρ')⟩

/-- and over the floats it agrees to the last bit. -/
theorem bitexact : Cert.bitexact_Kernel_Reference := fun m ρ m' ρ' _ hx =>
  ⟨Ref.refOut (F := Bits) (m' (((0 : Dev Cert.Reference.nD).tc : Thread Cert.Reference.nD Cert.Reference.τ).loc Cert.Reference.main_arg0)),
    by rw [defs_same]; exact kernel_value (F := Bits) m ρ _ _ hx, (θ_run Cert.ReferenceIdeal.defs _ _).mono (fun _ h => h 0) (Ref.run_ref (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
